-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "neg_sqrt_half" .f32 0xBF3504F3#32 ((-((Real.sqrt 2)⁻¹) : ℝ) : EReal)
  ∧ IdealRules.named_const.Statement Cert.KernelIdeal.κ "log2e" .f32 0x3FB8AA3B#32 (((Real.log 2)⁻¹ : ℝ) : EReal)
  ∧ IdealRules.named_const.Statement Cert.KernelIdeal.κ "neg_log2e" .f32 0xBFB8AA3B#32 ((-((Real.log 2)⁻¹) : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_indices)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_indices) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v119) = v0 c
          ∧ r.2.mem ((c.tc : Thread Cert.ReferenceIdeal.nD Cert.ReferenceIdeal.τ).loc Cert.ReferenceIdeal.main_indices) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def holds_KernelIdeal_best_by_exact_gelu [hKernelIdeal : Cert.KernelIdeal.Facts] [hPost_best_by_exact_gelu : Cert.Post_best_by_exact_gelu.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ (Cert.Post_best_by_exact_gelu.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (r.2.mem ((c.tc : Thread Cert.KernelIdeal.nD Cert.KernelIdeal.τ).loc Cert.KernelIdeal.main_v7)) (r.2.mem ((c.tc : Thread Cert.KernelIdeal.nD Cert.KernelIdeal.τ).loc Cert.KernelIdeal.main_indices))) = (fun _ => 1#1))

def Claim : Prop :=
  ∃ (hKernel : Cert.Kernel.Facts) (hKernelIdeal : Cert.KernelIdeal.Facts) (hReferenceIdeal : Cert.ReferenceIdeal.Facts) (hPost_best_by_exact_gelu : Cert.Post_best_by_exact_gelu.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
    ∧ holds_KernelIdeal_best_by_exact_gelu (hKernelIdeal := hKernelIdeal) (hPost_best_by_exact_gelu := hPost_best_by_exact_gelu)
-- ==== Post_best_by_exact_gelu.lean ====
abbrev S4x8192x768 : Shape := ⟨3, ![4, 8192, 768]⟩
abbrev S768x96 : Shape := ⟨2, ![768, 96]⟩
abbrev S96 : Shape := ⟨1, ![96]⟩
abbrev S96x1 : Shape := ⟨2, ![96, 1]⟩
abbrev S1 : Shape := ⟨1, ![1]⟩
abbrev S4x5734x768 : Shape := ⟨3, ![4, 5734, 768]⟩
abbrev S4x5734 : Shape := ⟨2, ![4, 5734]⟩
abbrev S4x8192x96 : Shape := ⟨3, ![4, 8192, 96]⟩
abbrev S1x1x96 : Shape := ⟨3, ![1, 1, 96]⟩
abbrev S_ : Shape := ⟨0, ![]⟩
abbrev S4x8192x1 : Shape := ⟨3, ![4, 8192, 1]⟩
abbrev S1x1x1 : Shape := ⟨3, ![1, 1, 1]⟩
abbrev S4x8192 : Shape := ⟨2, ![4, 8192]⟩
abbrev S4x5734x1 : Shape := ⟨3, ![4, 5734, 1]⟩

class Facts : Prop where
  bcast_S96_S1x1x96_2 : S96.BroadcastsInDim S1x1x96 (![2] : Fin 1 → Fin S1x1x96.rank)
  bcast_S1x1x96_S4x8192x96_0_1_2 : S1x1x96.BroadcastsInDim S4x8192x96 (![0, 1, 2] : Fin 3 → Fin S4x8192x96.rank)
  bcast_S_S4x8192x96 : S_.BroadcastsInDim S4x8192x96 (![] : Fin 0 → Fin S4x8192x96.rank)
  bcast_S1_S1x1x1_2 : S1.BroadcastsInDim S1x1x1 (![2] : Fin 1 → Fin S1x1x1.rank)
  bcast_S1x1x1_S4x8192x1_0_1_2 : S1x1x1.BroadcastsInDim S4x8192x1 (![0, 1, 2] : Fin 3 → Fin S4x8192x1.rank)
  shapeCasts_S4x8192x1_S4x8192 : S4x8192x1.ShapeCasts S4x8192
  bcast_S_S4x8192 : S_.BroadcastsInDim S4x8192 (![] : Fin 0 → Fin S4x8192.rank)
  sliceFits_S4x8192_S4x5734 : S4x8192.Slices (fun _ => 0) S4x5734
  bcast_S_S4x5734 : S_.BroadcastsInDim S4x5734 (![] : Fin 0 → Fin S4x5734.rank)
  shapeCasts_S4x5734_S4x5734x1 : S4x5734.ShapeCasts S4x5734x1
  bcast_S_S4x5734x1 : S_.BroadcastsInDim S4x5734x1 (![] : Fin 0 → Fin S4x5734x1.rank)
  bcast_S1x1x1_S4x5734x1_0_1_2 : S1x1x1.BroadcastsInDim S4x5734x1 (![0, 1, 2] : Fin 3 → Fin S4x5734x1.rank)
  reducesTo_S4x5734x1_S4x5734_d2 : S4x5734x1.ReducesTo [2] S4x5734
  h_S_ : 0 < S_.numel
  reducesTo_S96x1_S_d0_1 : S96x1.ReducesTo [0, 1] S_
  bcast_S4x5734_S4x5734x1_0_1 : S4x5734.BroadcastsInDim S4x5734x1 (![0, 1] : Fin 2 → Fin S4x5734x1.rank)
  bcast_S4x5734_S4x5734x768_0_1 : S4x5734.BroadcastsInDim S4x5734x768 (![0, 1] : Fin 2 → Fin S4x5734x768.rank)
  bcast_S_S4x5734x768 : S_.BroadcastsInDim S4x5734x768 (![] : Fin 0 → Fin S4x5734x768.rank)
  reducesTo_S4x5734x768_S4x5734_d2 : S4x5734x768.ReducesTo [2] S4x5734
  dot_S4x8192x768_S768x96_S4x8192x96_2_0_01_1_n_n_wf : DotDims.WF S4x8192x768 S768x96 S4x8192x96 [2] [0] [0, 1] [1] [] []
  dot_S4x8192x96_S96x1_S4x8192x1_2_0_01_1_n_n_wf : DotDims.WF S4x8192x96 S96x1 S4x8192x1 [2] [0] [0, 1] [1] [] []
  gather_S4x8192_S4x5734x1_S4x5734_n_1_0_0_1_2_11_wf : GatherDims.WF S4x8192 S4x5734x1 S4x5734 [] [1] [0] [1] [0] 2 ![1, 1]
  gather_S4x8192x768_S4x5734x1_S4x5734x768_2_1_0_0_1_2_11768_wf : GatherDims.WF S4x8192x768 S4x5734x1 S4x5734x768 [2] [1] [0] [1] [0] 2 ![1, 1, 768]

variable [Facts]

def dot_S4x8192x768_S768x96_S4x8192x96_2_0_01_1_n_n : DotDims S4x8192x768 S768x96 S4x8192x96 where
  lhsContracting := [2]
  rhsContracting := [0]
  lhsNonContracting := [0, 1]
  rhsNonContracting := [1]
  lhsBatch := []
  rhsBatch := []
  wf := dot_S4x8192x768_S768x96_S4x8192x96_2_0_01_1_n_n_wf
def dot_S4x8192x96_S96x1_S4x8192x1_2_0_01_1_n_n : DotDims S4x8192x96 S96x1 S4x8192x1 where
  lhsContracting := [2]
  rhsContracting := [0]
  lhsNonContracting := [0, 1]
  rhsNonContracting := [1]
  lhsBatch := []
  rhsBatch := []
  wf := dot_S4x8192x96_S96x1_S4x8192x1_2_0_01_1_n_n_wf
def gather_S4x8192_S4x5734x1_S4x5734_n_1_0_0_1_2_11 : GatherDims S4x8192 S4x5734x1 S4x5734 where
  offsetDims := []
  collapsedSliceDims := [1]
  operandBatchingDims := [0]
  startIndicesBatchingDims := [0]
  startIndexMap := [1]
  indexVectorDim := 2
  sliceSizes := ![1, 1]
  wf := gather_S4x8192_S4x5734x1_S4x5734_n_1_0_0_1_2_11_wf
def gather_S4x8192x768_S4x5734x1_S4x5734x768_2_1_0_0_1_2_11768 : GatherDims S4x8192x768 S4x5734x1 S4x5734x768 where
  offsetDims := [2]
  collapsedSliceDims := [1]
  operandBatchingDims := [0]
  startIndicesBatchingDims := [0]
  startIndexMap := [1]
  indexVectorDim := 2
  sliceSizes := ![1, 1, 768]
  wf := gather_S4x8192x768_S4x5734x1_S4x5734x768_2_1_0_0_1_2_11768_wf
def fn_take_along_axis {F : FTy → Type} [FloatOps F] (arg0 : FVec F S4x8192 .f32) (arg1 : IVec S4x5734 32) : FVec F S4x5734 .f32 :=
  let c : IVec S_ 32 := constantI S_ 32 0#32
  let v0 : IVec S4x5734 32 := broadcastInDim S4x5734 ![] bcast_S_S4x5734 c
  let v1 : IVec S4x5734 1 := cmpi .slt arg1 v0
  let c_0 : IVec S_ 32 := constantI S_ 32 8192#32
  let v2 : IVec S4x5734 32 := broadcastInDim S4x5734 ![] bcast_S_S4x5734 c_0
  let v3 : IVec S4x5734 32 := addi arg1 v2
  let v4 : IVec S4x5734 32 := select v1 v3 arg1
  let v5 : IVec S4x5734x1 32 := shapeCast S4x5734x1 v4 shapeCasts_S4x5734_S4x5734x1
  let c_1 : IVec S1 32 := constantI S1 32 8191#32
  let c_2 : IVec S_ 32 := constantI S_ 32 0#32
  let v6 : IVec S4x5734x1 32 := broadcastInDim S4x5734x1 ![] bcast_S_S4x5734x1 c_2
  let v7 : IVec S4x5734x1 1 := cmpi .sge v5 v6
  let v8 : IVec S1x1x1 32 := broadcastInDim S1x1x1 ![2] bcast_S1_S1x1x1_2 c_1
  let v9 : IVec S4x5734x1 32 := broadcastInDim S4x5734x1 ![0, 1, 2] bcast_S1x1x1_S4x5734x1_0_1_2 v8
  let v10 : IVec S4x5734x1 1 := cmpi .sle v5 v9
  let v11 : IVec S4x5734x1 1 := andi v7 v10
  let c_3 : IVec S_ 1 := constantI S_ 1 1#1
  let v12 : IVec S4x5734 1 := (fun x v => Host.reduce IntOp.andi x v reducesTo_S4x5734x1_S4x5734_d2 h_S_) v11 c_3
  let v13 : FVec F S4x5734 .f32 := (fun x i => Host.gather gather_S4x8192_S4x5734x1_S4x5734_n_1_0_0_1_2_11 x i) arg0 v5
  let cst : FVec F S_ .f32 := constant S_ .f32 0x7FC00000#32
  let v14 : FVec F S4x5734 .f32 := broadcastInDim S4x5734 ![] bcast_S_S4x5734 cst
  let v15 : FVec F S4x5734 .f32 := select v12 v13 v14
  v15

def fn_take_along_axis_0 {F : FTy → Type} [FloatOps F] (arg0 : FVec F S4x8192x768 .f32) (arg1 : IVec S4x5734x1 32) : FVec F S4x5734x768 .f32 :=
  let c : IVec S_ 32 := constantI S_ 32 0#32
  let v0 : IVec S4x5734x1 32 := broadcastInDim S4x5734x1 ![] bcast_S_S4x5734x1 c
  let v1 : IVec S4x5734x1 1 := cmpi .slt arg1 v0
  let c_0 : IVec S_ 32 := constantI S_ 32 8192#32
  let v2 : IVec S4x5734x1 32 := broadcastInDim S4x5734x1 ![] bcast_S_S4x5734x1 c_0
  let v3 : IVec S4x5734x1 32 := addi arg1 v2
  let v4 : IVec S4x5734x1 32 := select v1 v3 arg1
  let c_1 : IVec S1 32 := constantI S1 32 8191#32
  let c_2 : IVec S_ 32 := constantI S_ 32 0#32
  let v5 : IVec S4x5734x1 32 := broadcastInDim S4x5734x1 ![] bcast_S_S4x5734x1 c_2
  let v6 : IVec S4x5734x1 1 := cmpi .sge v4 v5
  let v7 : IVec S1x1x1 32 := broadcastInDim S1x1x1 ![2] bcast_S1_S1x1x1_2 c_1
  let v8 : IVec S4x5734x1 32 := broadcastInDim S4x5734x1 ![0, 1, 2] bcast_S1x1x1_S4x5734x1_0_1_2 v7
  let v9 : IVec S4x5734x1 1 := cmpi .sle v4 v8
  let v10 : IVec S4x5734x1 1 := andi v6 v9
  let c_3 : IVec S_ 1 := constantI S_ 1 1#1
  let v11 : IVec S4x5734 1 := (fun x v => Host.reduce IntOp.andi x v reducesTo_S4x5734x1_S4x5734_d2 h_S_) v10 c_3
  let v12 : FVec F S4x5734x768 .f32 := (fun x i => Host.gather gather_S4x8192x768_S4x5734x1_S4x5734x768_2_1_0_0_1_2_11768 x i) arg0 v4
  let v13 : IVec S4x5734x768 1 := broadcastInDim S4x5734x768 ![0, 1] bcast_S4x5734_S4x5734x768_0_1 v11
  let cst : FVec F S_ .f32 := constant S_ .f32 0x7FC00000#32
  let v14 : FVec F S4x5734x768 .f32 := broadcastInDim S4x5734x768 ![] bcast_S_S4x5734x768 cst
  let v15 : FVec F S4x5734x768 .f32 := select v13 v12 v14
  v15

def fn_part1 {F : FTy → Type} [FloatOps F] (main_arg0 : FVec F S4x8192x768 .f32) (main_arg3 : FVec F S96x1 .f32) (main_arg5 : FVec F S4x5734x768 .f32) (main_arg6 : IVec S4x5734 32) (main_v20 : FVec F S4x8192 .f32) : IVec S4x5734 1 :=
  let main_cst_2 : FVec F S_ .f32 := constant S_ .f32 0x3F800000#32
  let main_v21 : FVec F S4x8192 .f32 := broadcastInDim S4x8192 ![] bcast_S_S4x8192 main_cst_2
  let main_v22 : FVec F S4x8192 .f32 := Host.divf main_v21 main_v20
  let main_values : FVec F S4x5734 .f32 := (fun x => (Host.topK S4x5734 1 (FloatOps.cmpfTotal .gt) x sliceFits_S4x8192_S4x5734).1) main_v22
  let main_indices : IVec S4x5734 32 := (fun x => (Host.topK S4x5734 1 (FloatOps.cmpfTotal .gt) x sliceFits_S4x8192_S4x5734).2) main_v22
  let main_v23 : FVec F S4x5734 .f32 := fn_take_along_axis (F := F) main_v22 main_arg6
  let main_v24 : FVec F S96x1 .f32 := Host.absf main_arg3
  let main_cst_3 : FVec F S_ .f32 := constant S_ .f32 0x00000000#32
  let main_v25 : FVec F S_ .f32 := (fun x v => Host.reduceAdd x v reducesTo_S96x1_S_d0_1 h_S_) main_v24 main_cst_3
  let main_cst_4 : FVec F S_ .f32 := constant S_ .f32 0x35800000#32
  let main_v26 : FVec F S_ .f32 := mulf main_cst_4 main_v25
  let main_v27 : IVec S4x5734x1 32 := broadcastInDim S4x5734x1 ![0, 1] bcast_S4x5734_S4x5734x1_0_1 main_arg6
  let main_v28 : FVec F S4x5734x768 .f32 := fn_take_along_axis_0 (F := F) main_arg0 main_v27
  let main_v29 : FVec F S4x5734 .f32 := broadcastInDim S4x5734 ![] bcast_S_S4x5734 main_v26
  let main_v30 : FVec F S4x5734 .f32 := addf main_v23 main_v29
  let main_v31 : IVec S4x5734 1 := cmpf .oge main_v30 main_values
  let main_v32 : FVec F S4x5734 .f32 := broadcastInDim S4x5734 ![] bcast_S_S4x5734 main_v26
  let main_v33 : FVec F S4x5734 .f32 := addf main_values main_v32
  let main_v34 : IVec S4x5734 1 := cmpf .oge main_v33 main_v23
  let main_v35 : IVec S4x5734 1 := andi main_v31 main_v34
  let main_v36 : IVec S4x5734x768 1 := cmpf .oeq main_arg5 main_v28
  let main_c : IVec S_ 1 := constantI S_ 1 1#1
  let main_v37 : IVec S4x5734 1 := (fun x v => Host.reduce IntOp.andi x v reducesTo_S4x5734x768_S4x5734_d2 h_S_) main_v36 main_c
  let main_v38 : IVec S4x5734 1 := andi main_v35 main_v37
  main_v38

def fn {F : FTy → Type} [FloatOps F] (main_arg0 : FVec F S4x8192x768 .f32) (main_arg1 : FVec F S768x96 .f32) (main_arg2 : FVec F S96 .f32) (main_arg3 : FVec F S96x1 .f32) (main_arg4 : FVec F S1 .f32) (main_arg5 : FVec F S4x5734x768 .f32) (main_arg6 : IVec S4x5734 32) : IVec S4x5734 1 :=
  let main_v0 : FVec F S4x8192x96 .f32 := (fun l r => Host.dotGeneral dot_S4x8192x768_S768x96_S4x8192x96_2_0_01_1_n_n none l r) main_arg0 main_arg1
  let main_v1 : FVec F S1x1x96 .f32 := broadcastInDim S1x1x96 ![2] bcast_S96_S1x1x96_2 main_arg2
  let main_v2 : FVec F S4x8192x96 .f32 := broadcastInDim S4x8192x96 ![0, 1, 2] bcast_S1x1x96_S4x8192x96_0_1_2 main_v1
  let main_v3 : FVec F S4x8192x96 .f32 := addf main_v0 main_v2
  let main_cst : FVec F S_ .f32 := constant S_ .f32 0x3F000000#32
  let main_v4 : FVec F S4x8192x96 .f32 := broadcastInDim S4x8192x96 ![] bcast_S_S4x8192x96 main_cst
  let main_v5 : FVec F S4x8192x96 .f32 := mulf main_v4 main_v3
  let main_v6 : FVec F S4x8192x96 .f32 := Host.negf main_v3
  let main_cst_0 : FVec F S_ .f32 := constant S_ .f32 0x40000000#32
  let main_v7 : FVec F S_ .f32 := Host.sqrt main_cst_0
  let main_v8 : FVec F S4x8192x96 .f32 := broadcastInDim S4x8192x96 ![] bcast_S_S4x8192x96 main_v7
  let main_v9 : FVec F S4x8192x96 .f32 := Host.divf main_v6 main_v8
  let main_v10 : FVec F S4x8192x96 .f32 := Host.erfc main_v9
  let main_v11 : FVec F S4x8192x96 .f32 := mulf main_v5 main_v10
  let main_v12 : FVec F S4x8192x1 .f32 := (fun l r => Host.dotGeneral dot_S4x8192x96_S96x1_S4x8192x1_2_0_01_1_n_n none l r) main_v11 main_arg3
  let main_v13 : FVec F S1x1x1 .f32 := broadcastInDim S1x1x1 ![2] bcast_S1_S1x1x1_2 main_arg4
  let main_v14 : FVec F S4x8192x1 .f32 := broadcastInDim S4x8192x1 ![0, 1, 2] bcast_S1x1x1_S4x8192x1_0_1_2 main_v13
  let main_v15 : FVec F S4x8192x1 .f32 := addf main_v12 main_v14
  let main_v16 : FVec F S4x8192 .f32 := shapeCast S4x8192 main_v15 shapeCasts_S4x8192x1_S4x8192
  let main_v17 : FVec F S4x8192 .f32 := Host.negf main_v16
  let main_v18 : FVec F S4x8192 .f32 := Host.exp main_v17
  let main_cst_1 : FVec F S_ .f32 := constant S_ .f32 0x3F800000#32
  let main_v19 : FVec F S4x8192 .f32 := broadcastInDim S4x8192 ![] bcast_S_S4x8192 main_cst_1
  let main_v20 : FVec F S4x8192 .f32 := addf main_v19 main_v18
  fn_part1 (F := F) main_arg0 main_arg3 main_arg5 main_arg6 main_v20
-- ==== Kernel.lean ====
abbrev S4x8192x768 : Shape := ⟨3, ![4, 8192, 768]⟩
abbrev S768x96 : Shape := ⟨2, ![768, 96]⟩
abbrev S96 : Shape := ⟨1, ![96]⟩
abbrev S96x1 : Shape := ⟨2, ![96, 1]⟩
abbrev S1 : Shape := ⟨1, ![1]⟩
abbrev S32768x768 : Shape := ⟨2, ![32768, 768]⟩
abbrev S1x32768 : Shape := ⟨2, ![1, 32768]⟩
abbrev S1024x768 : Shape := ⟨2, ![1024, 768]⟩
abbrev S1x1024 : Shape := ⟨2, ![1, 1024]⟩
abbrev S96x1024 : Shape := ⟨2, ![96, 1024]⟩
abbrev S4x8192 : Shape := ⟨2, ![4, 8192]⟩
abbrev S4x5734 : Shape := ⟨2, ![4, 5734]⟩
abbrev S_ : Shape := ⟨0, ![]⟩
abbrev S4x5760 : Shape := ⟨2, ![4, 5760]⟩
abbrev S4x5760x1 : Shape := ⟨3, ![4, 5760, 1]⟩
abbrev S1x1x1 : Shape := ⟨3, ![1, 1, 1]⟩
abbrev S4x5760x768 : Shape := ⟨3, ![4, 5760, 768]⟩
abbrev S4x5734x768 : Shape := ⟨3, ![4, 5734, 768]⟩

abbrev nBuf : Space → Nat
  | .hbm => 38
  | .vmem => 8
  | .smem => 0
  | _ => 0

abbrev bufTy : (tb : Table) → Fin (tcTables nBuf tb) → BufTy
  | .hbm, ⟨0, _⟩ => ⟨S4x8192x768, .f32⟩
  | .hbm, ⟨1, _⟩ => ⟨S768x96, .f32⟩
  | .hbm, ⟨2, _⟩ => ⟨S96, .f32⟩
  | .hbm, ⟨3, _⟩ => ⟨S96x1, .f32⟩
  | .hbm, ⟨4, _⟩ => ⟨S1, .f32⟩
  | .hbm, ⟨5, _⟩ => ⟨S32768x768, .f32⟩
  | .hbm, ⟨6, _⟩ => ⟨S1x32768, .f32⟩
  | .hbm, ⟨7, _⟩ => ⟨S4x8192, .f32⟩
  | .hbm, ⟨8, _⟩ => ⟨S4x5734, .f32⟩
  | .hbm, ⟨9, _⟩ => ⟨S4x5734, .i32⟩
  | .hbm, ⟨10, _⟩ => ⟨S_, .i32⟩
  | .hbm, ⟨11, _⟩ => ⟨S_, .i32⟩
  | .hbm, ⟨12, _⟩ => ⟨S4x5760, .i32⟩
  | .hbm, ⟨13, _⟩ => ⟨S4x5760x1, .i32⟩
  | .hbm, ⟨14, _⟩ => ⟨S_, .i32⟩
  | .hbm, ⟨15, _⟩ => ⟨S4x5760x1, .i32⟩
  | .hbm, ⟨16, _⟩ => ⟨S4x5760x1, .i1⟩
  | .hbm, ⟨17, _⟩ => ⟨S_, .i32⟩
  | .hbm, ⟨18, _⟩ => ⟨S4x5760x1, .i32⟩
  | .hbm, ⟨19, _⟩ => ⟨S4x5760x1, .i32⟩
  | .hbm, ⟨20, _⟩ => ⟨S4x5760x1, .i32⟩
  | .hbm, ⟨21, _⟩ => ⟨S1, .i32⟩
  | .hbm, ⟨22, _⟩ => ⟨S_, .i32⟩
  | .hbm, ⟨23, _⟩ => ⟨S4x5760x1, .i32⟩
  | .hbm, ⟨24, _⟩ => ⟨S4x5760x1, .i1⟩
  | .hbm, ⟨25, _⟩ => ⟨S1x1x1, .i32⟩
  | .hbm, ⟨26, _⟩ => ⟨S4x5760x1, .i32⟩
  | .hbm, ⟨27, _⟩ => ⟨S4x5760x1, .i1⟩
  | .hbm, ⟨28, _⟩ => ⟨S4x5760x1, .i1⟩
  | .hbm, ⟨29, _⟩ => ⟨S_, .i1⟩
  | .hbm, ⟨30, _⟩ => ⟨S4x5760, .i1⟩
  | .hbm, ⟨31, _⟩ => ⟨S4x5760x768, .f32⟩
  | .hbm, ⟨32, _⟩ => ⟨S4x5760x768, .i1⟩
  | .hbm, ⟨33, _⟩ => ⟨S_, .f32⟩
  | .hbm, ⟨34, _⟩ => ⟨S4x5760x768, .f32⟩
  | .hbm, ⟨35, _⟩ => ⟨S4x5760x768, .f32⟩
  | .hbm, ⟨36, _⟩ => ⟨S4x5760x768, .f32⟩
  | .hbm, ⟨37, _⟩ => ⟨S4x5734x768, .f32⟩
  | .local _ .vmem, ⟨0, _⟩ => ⟨S1024x768, .f32⟩
  | .local _ .vmem, ⟨1, _⟩ => ⟨S1024x768, .f32⟩
  | .local _ .vmem, ⟨2, _⟩ => ⟨S768x96, .f32⟩
  | .local _ .vmem, ⟨3, _⟩ => ⟨S96, .f32⟩
  | .local _ .vmem, ⟨4, _⟩ => ⟨S96x1, .f32⟩
  | .local _ .vmem, ⟨5, _⟩ => ⟨S1, .f32⟩
  | .local _ .vmem, ⟨6, _⟩ => ⟨S1x1024, .f32⟩
  | .local _ .vmem, ⟨7, _⟩ => ⟨S1x1024, .f32⟩
  | _, _ => ⟨S4x8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_values : Ref sig .tc := ⟨.hbm, 8, rfl⟩
abbrev main_indices : Ref sig .tc := ⟨.hbm, 9, rfl⟩
abbrev main_c : Ref sig .tc := ⟨.hbm, 10, rfl⟩
abbrev main_call1_v0 : Ref sig .tc := ⟨.hbm, 11, rfl⟩
abbrev main_v3 : Ref sig .tc := ⟨.hbm, 12, rfl⟩
abbrev main_v4 : Ref sig .tc := ⟨.hbm, 13, rfl⟩
abbrev main_call2_c : Ref sig .tc := ⟨.hbm, 14, rfl⟩
abbrev main_call2_v0 : Ref sig .tc := ⟨.hbm, 15, rfl⟩
abbrev main_call2_v1 : Ref sig .tc := ⟨.hbm, 16, rfl⟩
abbrev main_call2_c_0 : Ref sig .tc := ⟨.hbm, 17, rfl⟩
abbrev main_call2_v2 : Ref sig .tc := ⟨.hbm, 18, rfl⟩
abbrev main_call2_v3 : Ref sig .tc := ⟨.hbm, 19, rfl⟩
abbrev main_call2_v4 : Ref sig .tc := ⟨.hbm, 20, rfl⟩
abbrev main_call2_c_1 : Ref sig .tc := ⟨.hbm, 21, rfl⟩
abbrev main_call2_c_2 : Ref sig .tc := ⟨.hbm, 22, rfl⟩
abbrev main_call2_v5 : Ref sig .tc := ⟨.hbm, 23, rfl⟩
abbrev main_call2_v6 : Ref sig .tc := ⟨.hbm, 24, rfl⟩
abbrev main_call2_v7 : Ref sig .tc := ⟨.hbm, 25, rfl⟩
abbrev main_call2_v8 : Ref sig .tc := ⟨.hbm, 26, rfl⟩
abbrev main_call2_v9 : Ref sig .tc := ⟨.hbm, 27, rfl⟩
abbrev main_call2_v10 : Ref sig .tc := ⟨.hbm, 28, rfl⟩
abbrev main_call2_c_3 : Ref sig .tc := ⟨.hbm, 29, rfl⟩
abbrev main_call2_v11 : Ref sig .tc := ⟨.hbm, 30, rfl⟩
abbrev main_call2_v12 : Ref sig .tc := ⟨.hbm, 31, rfl⟩
abbrev main_call2_v13 : Ref sig .tc := ⟨.hbm, 32, rfl⟩
abbrev main_call2_cst : Ref sig .tc := ⟨.hbm, 33, rfl⟩
abbrev main_call2_v14 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x96 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S96 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S96x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== KernelIdeal.lean ====
variable {F : FTy → Type} [FloatOps F] [Named F]
def κ : String → Option EReal := fun
  | "log2e" => some (((Real.log 2)⁻¹ : ℝ) : EReal)
  | "neg_log2e" => some ((-((Real.log 2)⁻¹) : ℝ) : EReal)
  | "neg_sqrt_half" => some ((-((Real.sqrt 2)⁻¹) : ℝ) : EReal)
  | _ => none
-- ==== ReferenceIdeal.lean ====
abbrev S4x8192x768 : Shape := ⟨3, ![4, 8192, 768]⟩
abbrev S768x96 : Shape := ⟨2, ![768, 96]⟩
abbrev S96 : Shape := ⟨1, ![96]⟩
abbrev S96x1 : Shape := ⟨2, ![96, 1]⟩
abbrev S1 : Shape := ⟨1, ![1]⟩
abbrev S4x8192x96 : Shape := ⟨3, ![4, 8192, 96]⟩
abbrev S1x1x96 : Shape := ⟨3, ![1, 1, 96]⟩
abbrev S_ : Shape := ⟨0, ![]⟩
abbrev S4x8192x1 : Shape := ⟨3, ![4, 8192, 1]⟩
abbrev S1x1x1 : Shape := ⟨3, ![1, 1, 1]⟩
abbrev S4x8192 : Shape := ⟨2, ![4, 8192]⟩
abbrev S4x5734 : Shape := ⟨2, ![4, 5734]⟩
abbrev S4x5734x1 : Shape := ⟨3, ![4, 5734, 1]⟩
abbrev S4x5734x768 : Shape := ⟨3, ![4, 5734, 768]⟩

abbrev nBuf : Space → Nat
  | .hbm => 186
  | .vmem => 0
  | .smem => 0
  | _ => 0

abbrev hbmTy0_0 (i : Nat) : BufTy := match i % 128 with
  | 0 => ⟨S4x8192x768, .f32⟩
  | 1 => ⟨S768x96, .f32⟩
  | 2 => ⟨S96, .f32⟩
  | 3 => ⟨S96x1, .f32⟩
  | 4 => ⟨S1, .f32⟩
  | 5 => ⟨S4x8192x96, .f32⟩
  | 6 => ⟨S1x1x96, .f32⟩
  | 7 => ⟨S4x8192x96, .f32⟩
  | 8 => ⟨S4x8192x96, .f32⟩
  | 9 => ⟨S_, .f32⟩
  | 10 => ⟨S4x8192x96, .f32⟩
  | 11 => ⟨S4x8192x96, .f32⟩
  | 12 => ⟨S4x8192x96, .f32⟩
  | 13 => ⟨S_, .f32⟩
  | 14 => ⟨S_, .f32⟩
  | 15 => ⟨S4x8192x96, .f32⟩
  | 16 => ⟨S4x8192x96, .f32⟩
  | 17 => ⟨S4x8192x96, .f32⟩
  | 18 => ⟨S_, .f32⟩
  | 19 => ⟨S4x8192x96, .f32⟩
  | 20 => ⟨S4x8192x96, .f32⟩
  | 21 => ⟨S_, .f32⟩
  | 22 => ⟨S4x8192x96, .f32⟩
  | 23 => ⟨S4x8192x96, .f32⟩
  | 24 => ⟨S4x8192x96, .f32⟩
  | 25 => ⟨S_, .f32⟩
  | 26 => ⟨S4x8192x96, .f32⟩
  | 27 => ⟨S4x8192x96, .f32⟩
  | 28 => ⟨S4x8192x96, .f32⟩
  | 29 => ⟨S_, .f32⟩
  | 30 => ⟨S4x8192x96, .f32⟩
  | 31 => ⟨S4x8192x96, .f32⟩
  | 32 => ⟨S4x8192x96, .f32⟩
  | 33 => ⟨S_, .f32⟩
  | 34 => ⟨S4x8192x96, .f32⟩
  | 35 => ⟨S4x8192x96, .f32⟩
  | 36 => ⟨S4x8192x96, .f32⟩
  | 37 => ⟨S_, .f32⟩
  | 38 => ⟨S4x8192x96, .f32⟩
  | 39 => ⟨S4x8192x96, .f32⟩
  | 40 => ⟨S4x8192x96, .f32⟩
  | 41 => ⟨S_, .f32⟩
  | 42 => ⟨S4x8192x96, .f32⟩
  | 43 => ⟨S4x8192x96, .f32⟩
  | 44 => ⟨S4x8192x96, .f32⟩
  | 45 => ⟨S_, .f32⟩
  | 46 => ⟨S4x8192x96, .f32⟩
  | 47 => ⟨S4x8192x96, .f32⟩
  | 48 => ⟨S4x8192x96, .f32⟩
  | 49 => ⟨S_, .f32⟩
  | 50 => ⟨S4x8192x96, .f32⟩
  | 51 => ⟨S4x8192x96, .f32⟩
  | 52 => ⟨S_, .f32⟩
  | 53 => ⟨S4x8192x96, .f32⟩
  | 54 => ⟨S4x8192x96, .f32⟩
  | 55 => ⟨S_, .f32⟩
  | 56 => ⟨S4x8192x96, .f32⟩
  | 57 => ⟨S4x8192x96, .f32⟩
  | 58 => ⟨S4x8192x96, .f32⟩
  | 59 => ⟨S_, .f32⟩
  | 60 => ⟨S4x8192x96, .f32⟩
  | 61 => ⟨S4x8192x96, .f32⟩
  | 62 => ⟨S4x8192x96, .f32⟩
  | 63 => ⟨S_, .f32⟩
  | 64 => ⟨S4x8192x96, .f32⟩
  | 65 => ⟨S4x8192x96, .f32⟩
  | 66 => ⟨S4x8192x96, .f32⟩
  | 67 => ⟨S_, .f32⟩
  | 68 => ⟨S4x8192x96, .f32⟩
  | 69 => ⟨S4x8192x96, .f32⟩
  | 70 => ⟨S4x8192x96, .f32⟩
  | 71 => ⟨S_, .f32⟩
  | 72 => ⟨S4x8192x96, .f32⟩
  | 73 => ⟨S4x8192x96, .f32⟩
  | 74 => ⟨S4x8192x96, .f32⟩
  | 75 => ⟨S_, .f32⟩
  | 76 => ⟨S4x8192x96, .f32⟩
  | 77 => ⟨S4x8192x96, .f32⟩
  | 78 => ⟨S4x8192x96, .f32⟩
  | 79 => ⟨S_, .f32⟩
  | 80 => ⟨S4x8192x96, .f32⟩
  | 81 => ⟨S4x8192x96, .f32⟩
  | 82 => ⟨S4x8192x96, .f32⟩
  | 83 => ⟨S_, .f32⟩
  | 84 => ⟨S4x8192x96, .f32⟩
  | 85 => ⟨S4x8192x96, .f32⟩
  | 86 => ⟨S_, .f32⟩
  | 87 => ⟨S4x8192x96, .f32⟩
  | 88 => ⟨S4x8192x96, .f32⟩
  | 89 => ⟨S_, .f32⟩
  | 90 => ⟨S4x8192x96, .f32⟩
  | 91 => ⟨S4x8192x96, .f32⟩
  | 92 => ⟨S4x8192x96, .f32⟩
  | 93 => ⟨S_, .f32⟩
  | 94 => ⟨S4x8192x96, .f32⟩
  | 95 => ⟨S4x8192x96, .f32⟩
  | 96 => ⟨S4x8192x96, .f32⟩
  | 97 => ⟨S_, .f32⟩
  | 98 => ⟨S4x8192x96, .f32⟩
  | 99 => ⟨S4x8192x96, .f32⟩
  | 100 => ⟨S4x8192x96, .f32⟩
  | 101 => ⟨S_, .f32⟩
  | 102 => ⟨S4x8192x96, .f32⟩
  | 103 => ⟨S4x8192x96, .f32⟩
  | 104 => ⟨S4x8192x96, .f32⟩
  | 105 => ⟨S_, .f32⟩
  | 106 => ⟨S4x8192x96, .f32⟩
  | 107 => ⟨S4x8192x96, .f32⟩
  | 108 => ⟨S4x8192x96, .f32⟩
  | 109 => ⟨S_, .f32⟩
  | 110 => ⟨S4x8192x96, .f32⟩
  | 111 => ⟨S4x8192x96, .f32⟩
  | 112 => ⟨S4x8192x96, .f32⟩
  | 113 => ⟨S_, .f32⟩
  | 114 => ⟨S4x8192x96, .f32⟩
  | 115 => ⟨S4x8192x96, .f32⟩
  | 116 => ⟨S4x8192x96, .f32⟩
  | 117 => ⟨S4x8192x96, .f32⟩
  | 118 => ⟨S4x8192x96, .f32⟩
  | 119 => ⟨S4x8192x96, .f32⟩
  | 120 => ⟨S4x8192x96, .f32⟩
  | 121 => ⟨S4x8192x96, .f32⟩
  | 122 => ⟨S_, .f32⟩
  | 123 => ⟨S4x8192x96, .f32⟩
  | 124 => ⟨S4x8192x96, .i1⟩
  | 125 => ⟨S4x8192x96, .f32⟩
  | 126 => ⟨S4x8192x96, .f32⟩
  | 127 => ⟨S4x8192x96, .f32⟩
  | _ => ⟨S4x8192x768, .f32⟩

abbrev hbmTy0_1 (i : Nat) : BufTy := match i % 128 with
  | 0 => ⟨S_, .f32⟩
  | 1 => ⟨S4x8192x96, .f32⟩
  | 2 => ⟨S4x8192x96, .i1⟩
  | 3 => ⟨S_, .f32⟩
  | 4 => ⟨S_, .f32⟩
  | 5 => ⟨S4x8192x96, .f32⟩
  | 6 => ⟨S4x8192x96, .f32⟩
  | 7 => ⟨S4x8192x96, .f32⟩
  | 8 => ⟨S_, .f32⟩
  | 9 => ⟨S4x8192x96, .f32⟩
  | 10 => ⟨S4x8192x96, .i1⟩
  | 11 => ⟨S_, .f32⟩
  | 12 => ⟨S4x8192x96, .f32⟩
  | 13 => ⟨S4x8192x96, .i1⟩
  | 14 => ⟨S_, .f32⟩
  | 15 => ⟨S4x8192x96, .f32⟩
  | 16 => ⟨S4x8192x96, .f32⟩
  | 17 => ⟨S4x8192x96, .f32⟩
  | 18 => ⟨S4x8192x96, .f32⟩
  | 19 => ⟨S4x8192x96, .f32⟩
  | 20 => ⟨S4x8192x1, .f32⟩
  | 21 => ⟨S1x1x1, .f32⟩
  | 22 => ⟨S4x8192x1, .f32⟩
  | 23 => ⟨S4x8192x1, .f32⟩
  | 24 => ⟨S4x8192, .f32⟩
  | 25 => ⟨S4x8192, .f32⟩
  | 26 => ⟨S4x8192, .f32⟩
  | 27 => ⟨S_, .f32⟩
  | 28 => ⟨S4x8192, .f32⟩
  | 29 => ⟨S4x8192, .f32⟩
  | 30 => ⟨S_, .f32⟩
  | 31 => ⟨S4x8192, .f32⟩
  | 32 => ⟨S4x8192, .f32⟩
  | 33 => ⟨S4x5734, .f32⟩
  | 34 => ⟨S4x5734, .i32⟩
  | 35 => ⟨S4x5734x1, .i32⟩
  | 36 => ⟨S_, .i32⟩
  | 37 => ⟨S4x5734x1, .i32⟩
  | 38 => ⟨S4x5734x1, .i1⟩
  | 39 => ⟨S_, .i32⟩
  | 40 => ⟨S4x5734x1, .i32⟩
  | 41 => ⟨S4x5734x1, .i32⟩
  | 42 => ⟨S4x5734x1, .i32⟩
  | 43 => ⟨S1, .i32⟩
  | 44 => ⟨S_, .i32⟩
  | 45 => ⟨S4x5734x1, .i32⟩
  | 46 => ⟨S4x5734x1, .i1⟩
  | 47 => ⟨S1x1x1, .i32⟩
  | 48 => ⟨S4x5734x1, .i32⟩
  | 49 => ⟨S4x5734x1, .i1⟩
  | 50 => ⟨S4x5734x1, .i1⟩
  | 51 => ⟨S_, .i1⟩
  | 52 => ⟨S4x5734, .i1⟩
  | 53 => ⟨S4x5734x768, .f32⟩
  | 54 => ⟨S4x5734x768, .i1⟩
  | 55 => ⟨S_, .f32⟩
  | 56 => ⟨S4x5734x768, .f32⟩
  | 57 => ⟨S4x5734x768, .f32⟩
  | _ => ⟨S4x8192x768, .f32⟩

abbrev hbmTy (i : Nat) : BufTy := match i / 128 with
  | 0 => hbmTy0_0 i
  | 1 => hbmTy0_1 i
  | _ => ⟨S4x8192x768, .f32⟩

abbrev bufTy : (tb : Table) → Fin (tcTables nBuf tb) → BufTy
  | .hbm, ⟨i, _⟩ => hbmTy i
  | _, _ => ⟨S4x8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_5 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_6 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_7 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_8 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_9 : Ref sig .tc := ⟨.hbm, 49, rfl⟩
abbrev main_v34 : Ref sig .tc := ⟨.hbm, 50, rfl⟩
abbrev main_v35 : Ref sig .tc := ⟨.hbm, 51, rfl⟩
abbrev main_cst_10 : Ref sig .tc := ⟨.hbm, 52, rfl⟩
abbrev main_v36 : Ref sig .tc := ⟨.hbm, 53, rfl⟩
abbrev main_v37 : Ref sig .tc := ⟨.hbm, 54, rfl⟩
abbrev main_cst_11 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_12 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_13 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_14 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_15 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_16 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_17 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_18 : Ref sig .tc := ⟨.hbm, 83, rfl⟩
abbrev main_v59 : Ref sig .tc := ⟨.hbm, 84, rfl⟩
abbrev main_v60 : Ref sig .tc := ⟨.hbm, 85, rfl⟩
abbrev main_cst_19 : Ref sig .tc := ⟨.hbm, 86, rfl⟩
abbrev main_v61 : Ref sig .tc := ⟨.hbm, 87, rfl⟩
abbrev main_v62 : Ref sig .tc := ⟨.hbm, 88, rfl⟩
abbrev main_cst_20 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_cst_21 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_cst_22 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_cst_23 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_cst_24 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_cst_25 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_cst_26 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_cst_27 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_cst_28 : Ref sig .tc := ⟨.hbm, 128, rfl⟩
abbrev main_v94 : Ref sig .tc := ⟨.hbm, 129, rfl⟩
abbrev main_v95 : Ref sig .tc := ⟨.hbm, 130, rfl⟩
abbrev main_cst_29 : Ref sig .tc := ⟨.hbm, 131, rfl⟩
abbrev main_call1_v0 : Ref sig .tc := ⟨.hbm, 132, rfl⟩
abbrev main_call1_v1 : Ref sig .tc := ⟨.hbm, 133, rfl⟩
abbrev main_v96 : Ref sig .tc := ⟨.hbm, 134, rfl⟩
abbrev main_v97 : Ref sig .tc := ⟨.hbm, 135, rfl⟩
abbrev main_cst_30 : Ref sig .tc := ⟨.hbm, 136, rfl⟩
abbrev main_v98 : Ref sig .tc := ⟨.hbm, 137, rfl⟩
abbrev main_v99 : Ref sig .tc := ⟨.hbm, 138, rfl⟩
abbrev main_cst_31 : Ref sig .tc := ⟨.hbm, 139, rfl⟩
abbrev main_v100 : Ref sig .tc := ⟨.hbm, 140, rfl⟩
abbrev main_v101 : Ref sig .tc := ⟨.hbm, 141, rfl⟩
abbrev main_cst_32 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_cst_33 : Ref sig .tc := ⟨.hbm, 155, rfl⟩
abbrev main_v114 : Ref sig .tc := ⟨.hbm, 156, rfl⟩
abbrev main_v115 : Ref sig .tc := ⟨.hbm, 157, rfl⟩
abbrev main_cst_34 : Ref sig .tc := ⟨.hbm, 158, rfl⟩
abbrev main_v116 : Ref sig .tc := ⟨.hbm, 159, rfl⟩
abbrev main_v117 : Ref sig .tc := ⟨.hbm, 160, rfl⟩
abbrev main_values : Ref sig .tc := ⟨.hbm, 161, rfl⟩
abbrev main_indices : Ref sig .tc := ⟨.hbm, 162, rfl⟩
abbrev main_v118 : Ref sig .tc := ⟨.hbm, 163, rfl⟩
abbrev main_call4_c : Ref sig .tc := ⟨.hbm, 164, rfl⟩
abbrev main_call4_v0 : Ref sig .tc := ⟨.hbm, 165, rfl⟩
abbrev main_call4_v1 : Ref sig .tc := ⟨.hbm, 166, rfl⟩
abbrev main_call4_c_0 : Ref sig .tc := ⟨.hbm, 167, rfl⟩
abbrev main_call4_v2 : Ref sig .tc := ⟨.hbm, 168, rfl⟩
abbrev main_call4_v3 : Ref sig .tc := ⟨.hbm, 169, rfl⟩
abbrev main_call4_v4 : Ref sig .tc := ⟨.hbm, 170, rfl⟩
abbrev main_call4_c_1 : Ref sig .tc := ⟨.hbm, 171, rfl⟩
abbrev main_call4_c_2 : Ref sig .tc := ⟨.hbm, 172, rfl⟩
abbrev main_call4_v5 : Ref sig .tc := ⟨.hbm, 173, rfl⟩
abbrev main_call4_v6 : Ref sig .tc := ⟨.hbm, 174, rfl⟩
abbrev main_call4_v7 : Ref sig .tc := ⟨.hbm, 175, rfl⟩
abbrev main_call4_v8 : Ref sig .tc := ⟨.hbm, 176, rfl⟩
abbrev main_call4_v9 : Ref sig .tc := ⟨.hbm, 177, rfl⟩
abbrev main_call4_v10 : Ref sig .tc := ⟨.hbm, 178, rfl⟩
abbrev main_call4_c_3 : Ref sig .tc := ⟨.hbm, 179, rfl⟩
abbrev main_call4_v11 : Ref sig .tc := ⟨.hbm, 180, rfl⟩
abbrev main_call4_v12 : Ref sig .tc := ⟨.hbm, 181, rfl⟩
abbrev main_call4_v13 : Ref sig .tc := ⟨.hbm, 182, rfl⟩
abbrev main_call4_cst : Ref sig .tc := ⟨.hbm, 183, rfl⟩
abbrev main_call4_v14 : Ref sig .tc := ⟨.hbm, 184, rfl⟩
abbrev main_v119 : Ref sig .tc := ⟨.hbm, 185, rfl⟩

abbrev nD : Nat := 1
abbrev τ : Topo := Topo.v7x

variable {F : FTy → Type} [FloatOps F]
-- ==== Proof.Consts.lean ====
/- The float constants the two programs spell, as the extended reals they denote when floats are the extended reals:
   the few whose value the proof needs (zero, one, two, the exponent's bound and its opposite) and the kernel's three
   named constants. The coefficients of the polynomials keep their words: both programs spell the same ones. -/
module

public import proofs.«01_k».proof.KernelIdeal
public import Idealize.ShloMosaic.PureOps.IdealRules

@[expose] public section

noncomputable section

namespace Cert.Consts

open Idealize.ShloMosaic

/-- The word of `0.0` denotes `0`. -/
theorem ofBits_zero : Ideal.ofBits .f32 0x00000000#32 = 0 := by
  simp [Ideal.ofBits, Ideal.ieee]

/-- The word of `1.0` denotes `1`. -/
theorem ofBits_one : Ideal.ofBits .f32 0x3F800000#32 = 1 := by
  have h : Ideal.ofBits .f32 0x3F800000#32 = ((1 : ℝ) : EReal) := by
    simp [Ideal.ofBits, Ideal.ieee, -EReal.coe_mul]; norm_num
  rw [h, EReal.coe_one]

/-- The word of `2.0` denotes the real `2`. -/
theorem ofBits_two : Ideal.ofBits .f32 0x40000000#32 = ((2 : ℝ) : EReal) := by
  simp [Ideal.ofBits, Ideal.ieee, -EReal.coe_mul]; norm_num

/-- The largest argument whose square's exponential the approximation still evaluates, as the real its word denotes. -/
theorem ofBits_bound : Ideal.ofBits .f32 0x42B17218#32 = ((11629080 / 131072 : ℝ) : EReal) := by
  simp [Ideal.ofBits, Ideal.ieee, -EReal.coe_mul]; norm_num

/-- The kernel spells that bound negated: its word denotes the opposite real. -/
theorem ofBits_neg_bound : Ideal.ofBits .f32 0xC2B17218#32 = ((-(11629080 / 131072) : ℝ) : EReal) := by
  simp [Ideal.ofBits, Ideal.ieee, -EReal.coe_mul]; norm_num

/-- The kernel's `-sqrt(1/2)` is the real `-(√2)⁻¹`. -/
theorem neg_sqrt_half : Named.named (F := Ideal) (φ := .f32) Cert.KernelIdeal.κ "neg_sqrt_half" 0xBF3504F3#32
    = ((-((Real.sqrt 2)⁻¹) : ℝ) : EReal) := by
  exact IdealRules.named_const.ideal_named_scalar _ _ _ _ rfl

/-- The kernel's `log2(e)` is the real `(log 2)⁻¹`. -/
theorem log2e : Named.named (F := Ideal) (φ := .f32) Cert.KernelIdeal.κ "log2e" 0x3FB8AA3B#32 = (((Real.log 2)⁻¹ : ℝ) : EReal) := by
  exact IdealRules.named_const.ideal_named_scalar _ _ _ _ rfl

/-- The kernel's `-log2(e)` is the real `-(log 2)⁻¹`. -/
theorem neg_log2e : Named.named (F := Ideal) (φ := .f32) Cert.KernelIdeal.κ "neg_log2e" 0xBFB8AA3B#32
    = ((-((Real.log 2)⁻¹) : ℝ) : EReal) := by
  exact IdealRules.named_const.ideal_named_scalar _ _ _ _ rfl

end Cert.Consts

end
-- ==== Proof.Activation.lean ====
/- One hidden unit on the extended reals: the kernel's activation of a preactivation `h` equals the reference's.

   The reference computes `0.5 h · erfc(-h / √2)` with the complementary error function's single precision expansion; the
   kernel computes the same expansion with products by named constants, reciprocals and powers of two. `gelu` is the
   reference's function, `kernelGelu` the kernel's, `kernelGelu_eq` their equality; `sigmoid`, `kernelSigmoid` and
   `kernelSigmoid_eq` likewise for a score. -/
module

public import proofs.«01_k».proof.Proof.Consts

@[expose] public section

noncomputable section

namespace Cert.Activation

open Idealize.ShloMosaic

/-- The value of a 32-bit float word. -/
abbrev word (b : BitVec 32) : EReal := Ideal.ofBits .f32 b

/-- The absolute value, as floats have it. -/
abbrev abs (x : EReal) : EReal := max x (-x)

/-! ## The expansion of the complementary error function -/

/-- The polynomial of the small arguments, `|a| < 1`, in `w = a²`. -/
def polyNear (w : EReal) : EReal :=
  (((((word 0x38A4B519#32 * w + word 0xBA51FB80#32) * w + word 0x3BAA02D9#32) * w + word 0xBCDBFC87#32) * w
    + word 0x3DE7167C#32) * w + word 0xBEC0939F#32) * w + word 0x3F906EBA#32

/-- The polynomial of the middle arguments, `1 ≤ |a| < 2`, in `y = 1 / a²`. -/
def polyMiddle (y : EReal) : EReal :=
  (((((((word 0x3CBE9CF4#32 * y + word 0xBE0E0868#32) * y + word 0x3EBCCBD0#32) * y + word 0xBF151CF8#32) * y
    + word 0x3F1EF9E3#32) * y + word 0xBEFD28C0#32) * y + word 0x3EAE5471#32) * y + word 0xBE8C5880#32) * y
    + word 0x3F1056E6#32

/-- The polynomial of the large arguments, `2 ≤ |a|`, in `y = 1 / a²`. -/
def polyTail (y : EReal) : EReal :=
  ((((((word 0xC127A483#32 * y + word 0x414FA29C#32) * y + word 0xC0EFDB4A#32) * y + word 0x403AF1FA#32) * y
    + word 0xBF81F436#32) * y + word 0x3ED7FC3E#32) * y + word 0xBE906C5D#32) * y + word 0x3F106EB9#32

/-- The expansion away from zero, for `|a|`, as the reference computes it. -/
def far (a : EReal) : EReal :=
  Scalar.select (Ideal.cmp .ogt (a * a) (word 0x42B17218#32)) (word 0x00000000#32)
    (Ideal.div (Ideal.exp (-(a * a))) (abs a)
      * Scalar.select (Ideal.cmp .olt (abs a) (word 0x40000000#32))
          (polyMiddle (Ideal.div (word 0x3F800000#32) (a * a))) (polyTail (Ideal.div (word 0x3F800000#32) (a * a))))

/-- The complementary error function's single precision expansion, as the reference computes it. -/
def erfc (a : EReal) : EReal :=
  Scalar.select (Ideal.cmp .olt (abs a) (word 0x3F800000#32))
    (word 0x3F800000#32 - a * polyNear (a * a))
    (Scalar.select (Ideal.cmp .olt a (word 0x00000000#32)) (word 0x40000000#32 - far a) (far a))

/-- The reference's activation of a preactivation. -/
def gelu (h : EReal) : EReal :=
  word 0x3F000000#32 * h * erfc (Ideal.div (-h) (Ideal.sqrt (word 0x40000000#32)))

/-- The reference's sigmoid. -/
def sigmoid (t : EReal) : EReal :=
  Ideal.div (word 0x3F800000#32) (word 0x3F800000#32 + Ideal.exp (-t))

/-! ## The kernel's forms -/

/-- The kernel's argument of the expansion: the preactivation times the named `-√(1/2)`. -/
def kernelArg (h : EReal) : EReal :=
  Named.named (F := Ideal) (φ := .f32) Cert.KernelIdeal.κ "neg_sqrt_half" 0xBF3504F3#32 * h

/-- The kernel's expansion away from zero. -/
def kernelFar (a : EReal) : EReal :=
  Scalar.select (Ideal.cmp .olt (word 0x00000000#32 - a * a) (word 0xC2B17218#32)) (word 0x00000000#32)
    (Scalar.select (Ideal.cmp .olt (abs a) (word 0x40000000#32))
        (polyMiddle (Ideal.div 1 (a * a))) (polyTail (Ideal.div 1 (a * a)))
      * (Ideal.div 1 (abs a)
        * Ideal.exp2 (Named.named (F := Ideal) (φ := .f32) Cert.KernelIdeal.κ "log2e" 0x3FB8AA3B#32
            * (word 0x00000000#32 - a * a))))

/-- The kernel's expansion. -/
def kernelErfc (a : EReal) : EReal :=
  Scalar.select (Ideal.cmp .olt (abs a) (word 0x3F800000#32))
    (word 0x3F800000#32 - a * polyNear (a * a))
    (Scalar.select (Ideal.cmp .olt a (word 0x00000000#32)) (word 0x40000000#32 - kernelFar a) (kernelFar a))

/-- The kernel's activation of a preactivation. -/
def kernelGelu (h : EReal) : EReal := kernelErfc (kernelArg h) * (word 0x3F000000#32 * h)

/-- The kernel's sigmoid. -/
def kernelSigmoid (t : EReal) : EReal :=
  Ideal.div 1 (word 0x3F800000#32
    + Ideal.exp2 (Named.named (F := Ideal) (φ := .f32) Cert.KernelIdeal.κ "neg_log2e" 0xBFB8AA3B#32 * t))

/-! ## They are equal -/

/-- A power of two of `u / log 2` is the exponential of `u`, at the infinities too. -/
theorem exp2_log2e (u : EReal) : Ideal.exp2 ((((Real.log 2)⁻¹ : ℝ) : EReal) * u) = Ideal.exp u := by
  have hl : 0 < Real.log 2 := Real.log_pos (by norm_num)
  have hp : 0 < (Real.log 2)⁻¹ := inv_pos.mpr hl
  induction u using EReal.rec with
  | bot => rw [EReal.coe_mul_bot_of_pos hp]; rfl
  | top => rw [EReal.coe_mul_top_of_pos hp]; rfl
  | coe r =>
    rw [← EReal.coe_mul, Ideal.exp2_coe, Ideal.exp_coe]
    congr 1
    show (2 : ℝ) ^ ((Real.log 2)⁻¹ * r) = Real.exp r
    rw [Real.rpow_def_of_pos (by norm_num)]
    congr 1
    field_simp

/-- The kernel's argument of the expansion is the reference's: `-(√2)⁻¹ h = -h / √2`. -/
theorem kernelArg_eq (h : EReal) : kernelArg h = Ideal.div (-h) (Ideal.sqrt (word 0x40000000#32)) := by
  have h2 : ¬((2 : ℝ) < 0) := by norm_num
  have hs : Real.sqrt 2 ≠ 0 := by positivity
  unfold kernelArg word
  rw [Consts.neg_sqrt_half, Consts.ofBits_two, Ideal.sqrt_coe, if_neg h2, Ideal.div_coe hs, one_div, EReal.coe_neg,
    EReal.neg_mul, EReal.neg_mul, mul_comm]

/-- The quotient of the exponential is the product with the reciprocal: where the divisor is zero, both are infinite. -/
theorem div_exp (a : EReal) :
    Ideal.div 1 (abs a) * Ideal.exp (-(a * a)) = Ideal.div (Ideal.exp (-(a * a))) (abs a) := by
  by_cases h : abs a = 0
  · have ha : a = 0 := by
      have h1 : a ≤ 0 := h ▸ le_max_left a (-a)
      have h2 : -a ≤ 0 := h ▸ le_max_right a (-a)
      exact le_antisymm h1 (by simpa using EReal.neg_le_neg_iff.mpr h2)
    subst ha
    have e : Ideal.exp (-((0 : EReal) * 0)) = 1 := by
      rw [mul_zero, neg_zero, ← EReal.coe_zero, Ideal.exp_coe, Real.exp_zero, EReal.coe_one]
    rw [e, mul_one]
  · unfold Ideal.div
    rw [if_neg h, if_neg h, one_mul, mul_comm]

/-- Negating both sides turns the comparison with the exponent's bound round. -/
theorem bound_cmp (w : EReal) : Ideal.cmp .olt (word 0x00000000#32 - w) (word 0xC2B17218#32)
    = Ideal.cmp .ogt w (word 0x42B17218#32) := by
  unfold word
  rw [Consts.ofBits_zero, Consts.ofBits_neg_bound, Consts.ofBits_bound, zero_sub]
  unfold Ideal.cmp
  congr 1
  simp only [decide_eq_decide]
  rw [EReal.coe_neg, EReal.neg_lt_neg_iff]

/-- The kernel's expansion away from zero is the reference's. -/
theorem kernelFar_eq (a : EReal) : kernelFar a = far a := by
  unfold kernelFar far
  rw [bound_cmp, Consts.log2e, exp2_log2e]
  unfold word
  rw [Consts.ofBits_zero, Consts.ofBits_one, zero_sub, div_exp]
  exact congrArg _ (mul_comm _ _)

/-- The kernel's expansion is the reference's. -/
theorem kernelErfc_eq (a : EReal) : kernelErfc a = erfc a := by
  unfold kernelErfc erfc
  rw [kernelFar_eq]

/-- The kernel's activation is the reference's. -/
theorem kernelGelu_eq (h : EReal) : kernelGelu h = gelu h := by
  unfold kernelGelu gelu
  rw [kernelErfc_eq, kernelArg_eq, mul_comm]

/-- The kernel's sigmoid is the reference's. -/
theorem kernelSigmoid_eq (t : EReal) : kernelSigmoid t = sigmoid t := by
  unfold kernelSigmoid sigmoid
  rw [Consts.neg_log2e, EReal.coe_neg, EReal.neg_mul, ← mul_neg, exp2_log2e]
  unfold word
  rw [Consts.ofBits_one]

end Cert.Activation

end
-- ==== Proof.Score.lean ====
/- A token's score in plain words: the two-layer perceptron of one row `x` of 768 numbers. Both programs are shown to
   compute this function of a token's row and the weights. -/
module

public import proofs.«01_k».proof.Proof.Activation
public import Idealize.ShloMosaic.Lib.ValueIdx

@[expose] public section

noncomputable section

namespace Cert.Score

open Idealize.ShloMosaic Idealize.ShloMosaic.ValueIdx Cert.Activation

/-- The preactivation of hidden unit `j`: the row times column `j` of the first weights, plus the first bias. -/
def preact (x : Fin 768 → EReal) (W1 : (⟨2, ![768, 96]⟩ : Shape).Idx → EReal) (b1 : (⟨1, ![96]⟩ : Shape).Idx → EReal)
    (j : Fin 96) : EReal :=
  ∑ k : Fin 768, x k * W1 (ix2 k j) + b1 (ix1 j)

/-- The logit: the activations times the second weights, plus the second bias. -/
def logit (x : Fin 768 → EReal) (W1 : (⟨2, ![768, 96]⟩ : Shape).Idx → EReal) (b1 : (⟨1, ![96]⟩ : Shape).Idx → EReal)
    (W2 : (⟨2, ![96, 1]⟩ : Shape).Idx → EReal) (b2 : (⟨1, ![1]⟩ : Shape).Idx → EReal) : EReal :=
  ∑ j : Fin 96, gelu (preact x W1 b1 j) * W2 (ix2 j 0) + b2 (ix1 0)

/-- The score: the sigmoid of the logit. -/
def score (x : Fin 768 → EReal) (W1 : (⟨2, ![768, 96]⟩ : Shape).Idx → EReal) (b1 : (⟨1, ![96]⟩ : Shape).Idx → EReal)
    (W2 : (⟨2, ![96, 1]⟩ : Shape).Idx → EReal) (b2 : (⟨1, ![1]⟩ : Shape).Idx → EReal) : EReal :=
  sigmoid (logit x W1 b1 W2 b2)

end Cert.Score

end
-- ==== Proof.Block.lean ====
/- One grid point of the kernel: from a block of 1024 rows it stores, at column `r` of its row of 1024, the score of row
   `r` of the block. The two matrix products are read at an index, then the elementwise operations. -/
module

public import proofs.«01_k».proof.Proof.Gen.KernelIdeal.Skeleton
public import proofs.«01_k».proof.Proof.Score
public import Idealize.ShloMosaic.Lib.Pipeline.Value
public import Idealize.ShloMosaic.Lib.ValueLayoutCasts
public import Idealize.ShloMosaic.Lib.MatmulPlain

@[expose] public section

noncomputable section

namespace Cert.KernelIdeal.Block

open Cert.KernelIdeal Cert.KernelIdeal.Gen
open Idealize.ShloMosaic Idealize.ShloMosaic.ValueIdx Cert.Activation Cert.Score

/-- The first product, weights by rows: entry `(j, r)` sums over the 768 features. -/
theorem firstProduct_apply (W1 : FVec Ideal S768x96 .f32) (x : FVec Ideal S1024x768 .f32) (acc : FVec Ideal S96x1024 .f32)
    (j : Fin 96) (r : Fin 1024) :
    matmul dot_S768x96_S1024x768_S96x1024_0_1_1_0_n_n none W1 x acc (ix2 j r)
      = acc (ix2 j r) + ∑ k : Fin 768, W1 (ix2 k j) * x (ix2 r k) := by
  show FloatOps.matmul _ _ W1 x acc (ix2 j r) = _
  rw [Ideal.matmul_apply,
    ← Equiv.sum_comp (contrEquiv1 dot_S768x96_S1024x768_S96x1024_0_1_1_0_n_n 768 rfl rfl).symm]
  refine congrArg (acc (ix2 j r) + ·) (Finset.sum_congr rfl fun k _ => ?_)
  have hk := contrEquiv1_symm_val dot_S768x96_S1024x768_S96x1024_0_1_1_0_n_n 768 rfl rfl k
  have el : dot_S768x96_S1024x768_S96x1024_0_1_1_0_n_n.lhsIdx (ix2 j r)
      ((contrEquiv1 dot_S768x96_S1024x768_S96x1024_0_1_1_0_n_n 768 rfl rfl).symm k) = ix2 k j := by
    funext a; apply Fin.ext
    match a with
    | ⟨0, _⟩ => exact hk
    | ⟨1, _⟩ => rfl
  have er : dot_S768x96_S1024x768_S96x1024_0_1_1_0_n_n.rhsIdx (ix2 j r)
      ((contrEquiv1 dot_S768x96_S1024x768_S96x1024_0_1_1_0_n_n 768 rfl rfl).symm k) = ix2 r k := by
    funext a; apply Fin.ext
    match a with
    | ⟨0, _⟩ => rfl
    | ⟨1, _⟩ => exact hk
  rw [el, er]

/-- The second product, weights by activations: entry `(0, r)` sums over the 96 hidden units. -/
theorem secondProduct_apply (W2 : FVec Ideal S96x1 .f32) (h : FVec Ideal S96x1024 .f32) (acc : FVec Ideal S1x1024 .f32)
    (r : Fin 1024) :
    matmul dot_S96x1_S96x1024_S1x1024_0_0_1_1_n_n none W2 h acc (ix2 0 r)
      = acc (ix2 0 r) + ∑ j : Fin 96, W2 (ix2 j 0) * h (ix2 j r) := by
  show FloatOps.matmul _ _ W2 h acc (ix2 0 r) = _
  rw [Ideal.matmul_apply,
    ← Equiv.sum_comp (contrEquiv1 dot_S96x1_S96x1024_S1x1024_0_0_1_1_n_n 96 rfl rfl).symm]
  refine congrArg (acc (ix2 0 r) + ·) (Finset.sum_congr rfl fun j _ => ?_)
  have hk := contrEquiv1_symm_val dot_S96x1_S96x1024_S1x1024_0_0_1_1_n_n 96 rfl rfl j
  have el : dot_S96x1_S96x1024_S1x1024_0_0_1_1_n_n.lhsIdx (ix2 0 r)
      ((contrEquiv1 dot_S96x1_S96x1024_S1x1024_0_0_1_1_n_n 96 rfl rfl).symm j) = ix2 j 0 := by
    funext a; apply Fin.ext
    match a with
    | ⟨0, _⟩ => exact hk
    | ⟨1, _⟩ => rfl
  have er : dot_S96x1_S96x1024_S1x1024_0_0_1_1_n_n.rhsIdx (ix2 0 r)
      ((contrEquiv1 dot_S96x1_S96x1024_S1x1024_0_0_1_1_n_n 96 rfl rfl).symm j) = ix2 j r := by
    funext a; apply Fin.ext
    match a with
    | ⟨0, _⟩ => exact hk
    | ⟨1, _⟩ => rfl
  rw [el, er]

variable (W1 : Vec Ideal S768x96 .f32) (x : Vec Ideal S1024x768 .f32) (b1 : Vec Ideal S96 .f32)
  (W2 : Vec Ideal S96x1 .f32) (b2 : Vec Ideal S1 .f32)

/-- The preactivations of a block, at unit `j` and row `r`. -/
theorem preactivation_apply (j : Fin 96) (r : Fin 1024) :
    k0_pay2 W1 x b1 (ix2 j r) = preact (fun k => x (ix2 r k)) W1 b1 j := by
  show matmul dot_S768x96_S1024x768_S96x1024_0_1_1_0_n_n none W1 (shapeCast S1024x768 x shapeCasts_S1024x768_S1024x768)
        (constant (F := Ideal) S96x1024 .f32 0x00000000#32) (ix2 j r)
      + broadcastTo S96x1024 (shapeCast S96x1 b1 shapeCasts_S96_S96x1) broadcasts_S96x1_S96x1024 (ix2 j r) = _
  have hb : broadcastTo S96x1024 (shapeCast S96x1 b1 shapeCasts_S96_S96x1) broadcasts_S96x1_S96x1024 (ix2 j r)
      = b1 (ix1 j) :=
    (broadcastTo_apply _ broadcasts_S96x1_S96x1024 (ix2 j r) (ix2 j 0) (fun a => match a with | ⟨0, _⟩ => rfl | ⟨1, _⟩ => rfl)).trans
      (shapeCast_a_a1_apply b1 shapeCasts_S96_S96x1 j 0)
  rw [hb, shapeCast_self, firstProduct_apply, constant_apply, Consts.ofBits_zero, zero_add]
  unfold preact
  exact congrArg (· + b1 (ix1 j)) (Finset.sum_congr rfl fun k _ => mul_comm _ _)

/-- What the kernel stores of a block: at column `r`, the score of row `r`. -/
theorem payload_apply (r : Fin 1024) :
    k0_pay1 (k0_pay2 W1 x b1) (k0_pay3 W1 x b1) (k0_pay4 W1 x b1) (k0_pay5 W1 x b1)
        (k0_pay9 (k0_pay6 W1 x b1) (k0_pay7 W1 x b1) (k0_pay8 W1 x b1)) (Scalar.ofBits (F := Ideal) .f32 0x00000000#32) W2 b2 (ix2 0 r)
      = score (fun k => x (ix2 r k)) W1 b1 W2 b2 := by
  have e : ∀ act : FVec Ideal S96x1024 .f32, (∀ i, act i = kernelGelu (k0_pay2 W1 x b1 i)) →
      kernelSigmoid (matmul (φ₁ := .f32) (φ₂ := .f32) dot_S96x1_S96x1024_S1x1024_0_0_1_1_n_n none W2 act
          (constant (F := Ideal) S1x1024 .f32 0x00000000#32) (ix2 0 r) + extractAt ![0] b2 inpos_S1_p0)
        = score (fun k => x (ix2 r k)) W1 b1 W2 b2 := by
    intro act hact
    rw [kernelSigmoid_eq, secondProduct_apply, constant_apply, Consts.ofBits_zero, zero_add]
    unfold score logit
    congr 2
    · refine Finset.sum_congr rfl fun j _ => ?_
      rw [hact, kernelGelu_eq, preactivation_apply, mul_comm]
    · exact congrArg b2 (funext fun a => match a with | ⟨0, _⟩ => rfl)
  exact e _ (fun i => rfl)

end Cert.KernelIdeal.Block

end
-- ==== Proof.Array.lean ====
/- The kernel's array of scores: after its 32 grid points, entry `(0, n)` of the 1 by 32768 array is the score of row `n`
   of the flattened tokens. Every point writes back its block of that one array, and the blocks tile it. -/
module

public import proofs.«01_k».proof.Proof.Gen.KernelIdeal.Frame
public import proofs.«01_k».proof.Proof.Block

@[expose] public section

noncomputable section

namespace Cert.KernelIdeal.Array

open Cert.KernelIdeal Cert.KernelIdeal.Gen
open Idealize.ShloMosaic Idealize.ShloMosaic.TcCoe Idealize.ShloMosaic.ValueIdx
open Idealize.ShloMosaic.Pipeline (Dat)
open Cert.Score

variable (m : (ℓ : Loc nD τ sig) → Buf (Elt Ideal) ℓ)

/-- The zero offset of rank 1. -/
theorem zero1 : (![0] : Fin 1 → Nat) = fun _ => 0 := funext fun a => by fin_cases a; rfl
/-- The zero offset of rank 2. -/
theorem zero2 : (![0, 0] : Fin 2 → Nat) = fun _ => 0 := funext fun a => by fin_cases a <;> rfl

/-- The scores of the flattened tokens, as the kernel's array has them. -/
def scores (c : Dev nD) : FVec Ideal S1x32768 .f32 := fun i =>
  score (fun k => V m c main_v0 (ix2 (i 1) k)) (V m c main_arg1) (V m c main_arg2) (V m c main_arg3) (V m c main_arg4)

/-- Where each window's block starts at point `t`, in blocks. -/
theorem index_facts : ∀ t : Fin cfg0.N,
    (win0_0.index t 0 = t.val ∧ win0_0.index t 1 = 0) ∧ (win0_1.index t 0 = 0 ∧ win0_1.index t 1 = 0)
    ∧ win0_2.index t 0 = 0 ∧ (win0_3.index t 0 = 0 ∧ win0_3.index t 1 = 0) ∧ win0_4.index t 0 = 0
    ∧ (win0_5.index t 0 = 0 ∧ win0_5.index t 1 = t.val) := by decide +kernel

/-- The tokens' block at point `t`: rows `1024 t` and on. -/
theorem block_tokens (c : Dev nD) (t : Fin cfg0.N) (r : Fin 1024) (k : Fin 768) (h : 1024 * t.val + r.val < 32768) :
    (iblk m c 0 t : Vec Ideal S1024x768 .f32) (ix2 r k) = V m c main_v0 (ix2 ⟨1024 * t.val + r.val, h⟩ k) := by
  have hi := (index_facts t).1
  unfold iblk
  rw [View.read_apply]
  show V m c main_v0 _ = _
  refine congrArg (V m c main_v0) (funext fun a => Fin.ext ?_)
  match a with
  | ⟨0, _⟩ => show win0_0.index t 0 * 1024 + 1 * r.val = 1024 * t.val + r.val; rw [hi.1]; omega
  | ⟨1, _⟩ => show win0_0.index t 1 * 768 + 1 * k.val = k.val; rw [hi.2]; omega

/-- The first weights' block is the whole array. -/
theorem block_W1 (c : Dev nD) (t : Fin cfg0.N) : (iblk m c 1 t : Vec Ideal S768x96 .f32) = V m c main_arg1 := by
  have hi := (index_facts t).2.1
  funext j
  unfold iblk
  rw [View.read_apply]
  show V m c main_arg1 _ = _
  refine congrArg (V m c main_arg1) (funext fun a => Fin.ext ?_)
  match a with
  | ⟨0, _⟩ => show win0_1.index t 0 * 768 + 1 * (j 0).val = (j 0).val; rw [hi.1]; omega
  | ⟨1, _⟩ => show win0_1.index t 1 * 96 + 1 * (j 1).val = (j 1).val; rw [hi.2]; omega

/-- The first bias's block is the whole array. -/
theorem block_b1 (c : Dev nD) (t : Fin cfg0.N) : (iblk m c 2 t : Vec Ideal S96 .f32) = V m c main_arg2 := by
  have hi := (index_facts t).2.2.1
  funext j
  unfold iblk
  rw [View.read_apply]
  show V m c main_arg2 _ = _
  refine congrArg (V m c main_arg2) (funext fun a => Fin.ext ?_)
  match a with
  | ⟨0, _⟩ => show win0_2.index t 0 * 96 + 1 * (j 0).val = (j 0).val; rw [hi]; omega

/-- The second weights' block is the whole array. -/
theorem block_W2 (c : Dev nD) (t : Fin cfg0.N) : (iblk m c 3 t : Vec Ideal S96x1 .f32) = V m c main_arg3 := by
  have hi := (index_facts t).2.2.2.1
  funext j
  unfold iblk
  rw [View.read_apply]
  show V m c main_arg3 _ = _
  refine congrArg (V m c main_arg3) (funext fun a => Fin.ext ?_)
  match a with
  | ⟨0, _⟩ => show win0_3.index t 0 * 96 + 1 * (j 0).val = (j 0).val; rw [hi.1]; omega
  | ⟨1, _⟩ => show win0_3.index t 1 * 1 + 1 * (j 1).val = (j 1).val; rw [hi.2]; omega

/-- The second bias's block is the whole array. -/
theorem block_b2 (c : Dev nD) (t : Fin cfg0.N) : (iblk m c 4 t : Vec Ideal S1 .f32) = V m c main_arg4 := by
  have hi := (index_facts t).2.2.2.2.1
  funext j
  unfold iblk
  rw [View.read_apply]
  show V m c main_arg4 _ = _
  refine congrArg (V m c main_arg4) (funext fun a => Fin.ext ?_)
  match a with
  | ⟨0, _⟩ => show win0_4.index t 0 * 1 + 1 * (j 0).val = (j 0).val; rw [hi]; omega

/-- The body's result at point `t`, at column `r`: the score of row `1024 t + r`. -/
theorem out_apply (c : Dev nD) (t : Fin cfg0.N) (r : Fin 1024) (h : 1024 * t.val + r.val < 32768) :
    out0_5 (iblk m c 0 t) (iblk m c 1 t) (iblk m c 2 t) (iblk m c 3 t) (iblk m c 4 t) (ix2 0 r)
      = scores m c (ix2 0 ⟨1024 * t.val + r.val, h⟩) := by
  unfold out0_5
  rw [View.canon_unit_zero zero2, View.ld_unit_zero zero2, View.ld_unit_zero zero2, View.ld_unit_zero zero1,
    View.ld_unit_zero zero2, View.ld_unit_zero zero1]
  refine (Block.payload_apply (iblk m c 1 t) (iblk m c 0 t) (iblk m c 2 t) (iblk m c 3 t) (iblk m c 4 t) r).trans ?_
  rw [block_W1, block_b1, block_W2, block_b2]
  exact congrArg (fun x => score x _ _ _ _) (funext fun k => block_tokens m c t r k h)

/-- Where the result's block at point `t` puts its column `r`. -/
theorem emb_block (t : Fin cfg0.N) (r : Fin 1024) (h : 1024 * t.val + r.val < 32768) :
    ((win0_5.blk t).view.emb (ix2 0 r) : S1x32768.Idx) = ix2 0 ⟨1024 * t.val + r.val, h⟩ := by
  have hi := (index_facts t).2.2.2.2.2
  funext a
  apply Fin.ext
  match a with
  | ⟨0, _⟩ => show win0_5.index t 0 * 1 + 1 * 0 = 0; rw [hi.1]
  | ⟨1, _⟩ => show win0_5.index t 1 * 1024 + 1 * r.val = 1024 * t.val + r.val; rw [hi.2]; omega

/-- What point `t` writes back is its block of the scores. -/
theorem flushed_eq (c : Dev nD) (t : Fin cfg0.N) :
    (dats m 0 c).flushed 5 t = (win0_5.blk t).view.read (Elt Ideal) (scores m c) := by
  show (cfg0.win 5).cut (grid0.coords t) ((dats m 0 c).after 5 t) = _
  rw [after0_5]
  have hN : cfg0.N = 32 := N_0
  have ht : t.val < 32 := hN ▸ t.isLt
  refine funext fun (j : S1x1024.Idx) => ?_
  have hj0 : (j 0).val < 1 := (j 0).isLt
  have hj1 : (j 1).val < 1024 := (j 1).isLt
  have hr : 1024 * t.val + (j 1).val < 32768 := by omega
  have e : j = ix2 0 ⟨(j 1).val, hj1⟩ := by
    funext a; apply Fin.ext
    match a with
    | ⟨0, _⟩ => show (j 0).val = 0; omega
    | ⟨1, _⟩ => rfl
  have l := out_apply m c t ⟨(j 1).val, hj1⟩ hr
  have r := congrArg (scores m c) (emb_block t ⟨(j 1).val, hj1⟩ hr)
  rw [← e] at l r
  exact l.trans r.symm

/-- An index of the array is in point `t`'s block when its column is among the block's 1024. -/
theorem mem_block (t : Fin cfg0.N) (i : S1x32768.Idx) :
    i ∈ ((cfg0.win 5).blk t).view.set ↔ t.val * 1024 ≤ (i 1 : Nat) ∧ (i 1 : Nat) < t.val * 1024 + 1024 := by
  show i ∈ ((View.whole main_v1).slice (win0_5.rect t)).set ↔ _
  rw [View.set_slice_whole, Rect.mem_set_unit]
  have hi := (index_facts t).2.2.2.2.2
  have h0 : (i 0 : Nat) < 1 := (i 0).isLt
  refine ⟨fun h => ?_, fun h a => ?_⟩
  · have : win0_5.index t 1 * 1024 ≤ (i 1 : Nat) ∧ (i 1 : Nat) < win0_5.index t 1 * 1024 + 1024 := h 1
    rw [hi.2] at this; exact this
  · match a with
    | ⟨0, _⟩ => show win0_5.index t 0 * 1 ≤ (i 0 : Nat) ∧ (i 0 : Nat) < win0_5.index t 0 * 1 + 1
                rw [hi.1]; omega
    | ⟨1, _⟩ => show win0_5.index t 1 * 1024 ≤ (i 1 : Nat) ∧ (i 1 : Nat) < win0_5.index t 1 * 1024 + 1024
                rw [hi.2]; exact h

/-- The 32 blocks tile the array. -/
theorem cover (i : S1x32768.Idx) :
    ∃ t : Fin cfg0.N, (cfg0.win 5).flush t = true ∧ i ∈ ((cfg0.win 5).blk t).view.set := by
  have h1 : (i 1 : Nat) < 32768 := (i 1).isLt
  have hN : cfg0.N = 32 := N_0
  have ht : (i 1 : Nat) / 1024 < cfg0.N := by omega
  refine ⟨⟨(i 1 : Nat) / 1024, ht⟩, flush0_5 _, ?_⟩
  rw [mem_block]
  dsimp only
  omega

/-- So the array ends holding the scores. -/
theorem final (c : Dev nD) : (dats m 0 c).arrAt 5 cfg0.N = scores m c :=
  (dats m 0 c).arrAt_eq_of_cover 5 (scores m c) (fun t _ => flushed_eq m c t) cover

end Cert.KernelIdeal.Array

end
-- ==== Proof.KernelRun.lean ====
/- The kernel program's run: what its two results hold, as the host's operations on the array of scores leave them. -/
module

public import proofs.«01_k».proof.Proof.Array
public import Idealize.ShloMosaic.Lib.StableHlo.Run

@[expose] public section

noncomputable section

namespace Cert.KernelIdeal.KernelRun

open Cert.KernelIdeal Cert.KernelIdeal.Gen
open Idealize.ShloMosaic Idealize.ShloMosaic.TcCoe Idealize.SL.Sem

/-- The indices a take along the token axis reads at: a negative one counts from the end. -/
def wrapped (i : IVec S4x5760x1 32) : IVec S4x5760x1 32 :=
  select (cmpi .slt i (broadcastInDim S4x5760x1 ![] bcast_S_S4x5760x1 (constantI S_ 32 0#32)))
    (addi i (broadcastInDim S4x5760x1 ![] bcast_S_S4x5760x1 (constantI S_ 32 8192#32))) i

/-- Which of them name a token. -/
def inRange (i : IVec S4x5760x1 32) : IVec S4x5760 1 :=
  Host.reduce IntOp.andi
    (andi (cmpi .sge (wrapped i) (broadcastInDim S4x5760x1 ![] bcast_S_S4x5760x1 (constantI S_ 32 0#32)))
      (cmpi .sle (wrapped i) (broadcastInDim S4x5760x1 ![0, 1, 2] bcast_S1x1x1_S4x5760x1_0_1_2
        (broadcastInDim S1x1x1 ![2] bcast_S1_S1x1x1_2 (constantI S1 32 8191#32)))))
    (constantI S_ 1 1#1) reducesTo_S4x5760x1_S4x5760_d2 h_S_

/-- The take along the token axis of 5760 indices per batch member. -/
def taken (x : FVec Ideal S4x8192x768 .f32) (i : IVec S4x5760x1 32) : FVec Ideal S4x5760x768 .f32 :=
  select (broadcastInDim S4x5760x768 ![0, 1] bcast_S4x5760_S4x5760x768_0_1 (inRange i))
    (Host.gather gather_S4x8192x768_S4x5760x1_S4x5760x768_2_1_0_0_1_2_11768 x (wrapped i))
    (broadcastInDim S4x5760x768 ![] bcast_S_S4x5760x768 (constant (F := Ideal) S_ .f32 0x7FC00000#32))

/-- The 5734 indices per batch member, padded with zeros to 5760 and given a unit axis. -/
def padded (i : IVec S4x5734 32) : IVec S4x5760x1 32 :=
  broadcastInDim S4x5760x1 ![0, 1] bcast_S4x5760_S4x5760x1_0_1
    (pad S4x5760 ![0, 0] ![0, 26] ![0, 0] i (constantI S_ 32 0#32) pads_S4x5734_S4x5760_000_0260 h_S_)

/-- The kept tokens: the first 5734 of the tokens taken at the padded indices. -/
def kept (x : FVec Ideal S4x8192x768 .f32) (i : IVec S4x5734 32) : FVec Ideal S4x5734x768 .f32 :=
  extractStridedSlice S4x5734x768 ![0, 0, 0] (taken x (padded i)) slices_S4x5760x768_S4x5734x768_0_0_0

/-- The indices of the 5734 largest scores of each batch member. -/
def top (s : FVec Ideal S4x8192 .f32) : IVec S4x5734 32 :=
  (Host.topK S4x5734 1 (FloatOps.cmpfTotal .gt) s sliceFits_S4x8192_S4x5734).2

variable (m : (ℓ : Loc nD τ sig) → Buf (Elt Ideal) ℓ) (ρ : Dev nD → PrngReg)

/-- The scores, as the 4 by 8192 array the selection reads. -/
def scoreRows (c : Dev nD) : FVec Ideal S4x8192 .f32 :=
  shapeCast S4x8192 (Array.scores m c) shapeCasts_S1x32768_S4x8192

/-- The tokens the region reads are the argument, flattened to one row per token. -/
theorem V_main_v0 (c : Dev nD) :
    V m c main_v0 = shapeCast S32768x768 (m ((c : Thread nD τ).loc main_arg0)) shapeCasts_S4x8192x768_S32768x768 := by
  show StableHlo.after (List.flatten [hostOps0]) (fun b => m (c, b)) (Proc.devRef .tc main_v0) = _
  simp only [hostOps0, List.flatten_cons, List.flatten_nil, List.append_nil]
  after_results_simp
  rfl

/-- The array of scores after the region. -/
theorem region_scores (c : Dev nD) :
    Pipeline.withArrays (cfgs 0).spec c (V0 m c) (fun w => (dats m 0 c).arrAt w (cfgs 0).N) (Proc.devRef .tc main_v1)
      = Array.scores m c :=
  (Pipeline.withArrays_arr (cfgs 0).spec (by exact (by decide : Function.Injective (Pipeline.arrRef spec0))) c (V0 m c) _ 5).trans
    (Array.final m c)

/-- The tokens after the region: as launched. -/
theorem region_tokens (c : Dev nD) :
    Pipeline.withArrays (cfgs 0).spec c (V0 m c) (fun w => (dats m 0 c).arrAt w (cfgs 0).N) (Proc.devRef .tc main_arg0)
      = m ((c : Thread nD τ).loc main_arg0) :=
  (Pipeline.withArrays_of_ne _ c (V0 m c) _ main_arg0 (by exact (by decide : ∀ w, Pipeline.arrRef spec0 w ≠ main_arg0))).trans
    (V_main_arg0 m c)

/-- The operations after the region leave the indices of the largest scores in the second result, -/
theorem tail_indices (c : Dev nD) :
    Pipeline.afterTail₀ cfgs (dats m) 0 (V0 m) [hostOps1, hostOps1_1, hostOps1_2, hostOps1_3, hostOps1_4] c main_indices
      = top (scoreRows m c) := by
  unfold Pipeline.afterTail₀
  simp only [hostOps1, hostOps1_1, hostOps1_2, hostOps1_3, hostOps1_4, List.flatten_cons, List.flatten_nil, List.append_nil,
    List.cons_append, List.nil_append]
  after_results_simp
  rw [region_scores]
  rfl

/-- Two lists of operations one after the other. -/
theorem after_parts (l₁ l₂ : List (HloOp τ sig (Elt Ideal))) (W : Valuation τ sig (Elt Ideal)) :
    StableHlo.after (l₁ ++ l₂) W = StableHlo.after l₂ (StableHlo.after l₁ W) := by
  induction l₁ generalizing W with
  | nil => rfl
  | cons o l ih => simp only [List.cons_append, StableHlo.after_cons, ih]

/-- Five lists one after the other, the first three taken together. -/
theorem flatten_five {α : Type} (a b c d e : List α) : [a, b, c, d, e].flatten = ((a ++ b ++ c) ++ d) ++ e := by
  simp only [List.flatten_cons, List.flatten_nil, List.append_nil, List.append_assoc]

/-- The take, from any contents before it: it reads the tokens and the indices and leaves what it takes. -/
theorem after_take (W : Valuation τ sig (Elt Ideal)) :
    StableHlo.after hostOps1_3 W (Proc.devRef .tc main_v5)
      = taken (W (Proc.devRef .tc main_arg0)) (W (Proc.devRef .tc main_v4)) := by
  simp only [hostOps1_3]
  after_results_simp
  simp -implicitDefEqProofs only [StableHlo.TRef.toBuf, StableHlo.TRef.ofBuf, cast_cast, cast_eq]
  unfold taken inRange wrapped
  with_reducible rfl

/-- The take leaves the tokens as they were. -/
theorem before_take_tokens (W : Valuation τ sig (Elt Ideal)) :
    StableHlo.after (hostOps1 ++ hostOps1_1 ++ hostOps1_2) W (Proc.devRef .tc main_arg0) = W (Proc.devRef .tc main_arg0) := by
  simp only [hostOps1, hostOps1_1, hostOps1_2, List.cons_append, List.nil_append]
  after_results_simp

/-- Before the take: the indices of the largest scores, padded. -/
theorem before_take_indices (W : Valuation τ sig (Elt Ideal)) :
    StableHlo.after (hostOps1 ++ hostOps1_1 ++ hostOps1_2) W (Proc.devRef .tc main_v4)
      = padded (top (shapeCast S4x8192 (W (Proc.devRef .tc main_v1)) shapeCasts_S1x32768_S4x8192)) := by
  simp only [hostOps1, hostOps1_1, hostOps1_2, List.cons_append, List.nil_append]
  after_results_simp
  simp -implicitDefEqProofs only [StableHlo.TRef.toBuf, StableHlo.TRef.ofBuf, cast_cast, cast_eq, id_eq]
  have hs : (fun i => shapeCast main_v2.ty.shape (W (Proc.devRef .tc main_v1)) shapeCasts_S1x32768_S4x8192 i)
      = shapeCast S4x8192 (W (Proc.devRef .tc main_v1)) shapeCasts_S1x32768_S4x8192 := rfl
  exact congrArg (fun s => padded (top s)) hs

/-- After the take: the first 5734 of what was taken. -/
theorem after_slice (W : Valuation τ sig (Elt Ideal)) :
    StableHlo.after hostOps1_4 W (Proc.devRef .tc main_v7)
      = extractStridedSlice S4x5734x768 ![0, 0, 0] (W (Proc.devRef .tc main_v5)) slices_S4x5760x768_S4x5734x768_0_0_0 := by
  simp only [hostOps1_4]
  after_results_simp
  rfl

/-- The operations after the region leave the kept tokens in the first result. -/
theorem tail_kept (c : Dev nD) :
    Pipeline.afterTail₀ cfgs (dats m) 0 (V0 m) [hostOps1, hostOps1_1, hostOps1_2, hostOps1_3, hostOps1_4] c main_v7
      = kept (m ((c : Thread nD τ).loc main_arg0)) (top (scoreRows m c)) := by
  unfold Pipeline.afterTail₀
  rw [flatten_five, after_parts, after_parts, after_slice, after_take, before_take_tokens, before_take_indices, region_tokens, region_scores]
  unfold kept scoreRows
  with_reducible rfl

/-- The run: the two results, and the arguments as launched. -/
theorem run : θ_run defs (onTc (τ := τ) (main (F := Ideal))) ⟨m, fun _ => 0, ρ⟩ fun r => ∀ c : Dev nD,
      (r.2.mem ((c : Thread nD τ).loc main_v7) = kept (m ((c : Thread nD τ).loc main_arg0)) (top (scoreRows m c))
        ∧ r.2.mem ((c : Thread nD τ).loc main_indices) = top (scoreRows m c))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c =>
      ⟨⟨((h.1 c).2 main_v7 (Pipeline.mem_restRefs_of main_v7 (by decide) (by decide))).trans (tail_kept m c),
        ((h.1 c).2 main_indices (Pipeline.mem_restRefs_of main_indices (by decide) (by decide))).trans (tail_indices m c)⟩,
        h.2 c⟩)
    (θ_run_and (run_main m ρ) (unchanged m ρ))

end Cert.KernelIdeal.KernelRun

end
-- ==== Proof.Take.lean ====
/- One entry of the take along the token axis. The kernel takes 5760 positions per batch member and keeps the first 5734,
   the reference takes the 5734: either way, entry `(b, t, k)` depends only on the index word at `(b, t)`. -/
module

public import proofs.«01_k».proof.Proof.KernelRun
public import proofs.«01_k».proof.Proof.Gen.ReferenceIdeal.Run
public import Idealize.ShloMosaic.Lib.Pipeline.Value
public import Idealize.ShloMosaic.Lib.KernelVsHost
public import Idealize.ShloMosaic.PureOps.Reduce

@[expose] public section

noncomputable section

namespace Cert.Take

open Idealize.ShloMosaic Idealize.ShloMosaic.TcCoe Idealize.ShloMosaic.ValueIdx

/-- The position an index word names: a negative one counts from the end. -/
def position (w : BitVec 32) : BitVec 32 :=
  Scalar.select (IntOp.cmpi .slt w 0#32) (IntOp.addi w 8192#32) w

/-- What an index word takes from feature `k` of batch member `b`: the token at its position, clamped into range, or the
    fill value where the position is out of range. -/
def entry (x : (⟨3, ![4, 8192, 768]⟩ : Shape).Idx → EReal) (b : Fin 4) (k : Fin 768) (w : BitVec 32) : EReal :=
  Scalar.select (IntOp.andi (IntOp.andi (IntOp.cmpi .sge (position w) 0#32) (IntOp.cmpi .sle (position w) 8191#32)) 1#1)
    (x (ix3 b ⟨min (position w).toInt.toNat 8191, by omega⟩ k)) (Ideal.ofBits .f32 0x7FC00000#32)

/-- A reduction over a last axis of one element combines that element with the initial value. -/
theorem reduce_unit {n : Nat} (f : BitVec 1 → BitVec 1 → BitVec 1) [Std.Commutative f] [Std.Associative f]
    (x : (⟨3, ![4, n, 1]⟩ : Shape).Idx → BitVec 1) {u : Shape} (init : u.Idx → BitVec 1)
    (h : (⟨3, ![4, n, 1]⟩ : Shape).ReducesTo [2] ⟨2, ![4, n]⟩) (hu : 0 < u.numel) (b : Fin 4) (t : Fin n) :
    Host.reduce f x init h hu (ix2 b t) = f (x (ix3 b t 0)) (init (Shape.Idx.first hu)) := by
  rw [Host.reduce_eq_fold]
  have e : (Finset.univ.filter fun i => h.drop i = ix2 b t) = {ix3 b t 0} := by
    ext i
    have h0 : (h.drop i 0 : Nat) = i 0 := Shape.ReducesTo.drop_apply_val h i 0
    have h1 : (h.drop i 1 : Nat) = i 1 := Shape.ReducesTo.drop_apply_val h i 1
    simp only [Finset.mem_filter, Finset.mem_univ, true_and, Finset.mem_singleton]
    constructor
    · intro e
      rw [e] at h0 h1
      funext a
      match a with
      | ⟨0, _⟩ => exact Fin.ext h0.symm
      | ⟨1, _⟩ => exact Fin.ext h1.symm
      | ⟨2, _⟩ => exact Subsingleton.elim (α := Fin 1) _ _
    · rintro rfl
      funext a
      match a with
      | ⟨0, _⟩ => exact Fin.ext h0
      | ⟨1, _⟩ => exact Fin.ext h1
  rw [e, Finset.fold_singleton]

section Kernel
open Cert.KernelIdeal Cert.KernelIdeal.Gen Cert.KernelIdeal.KernelRun

/-- The kernel's gather, at an entry. -/
theorem kernel_gather (x : FVec Ideal S4x8192x768 .f32) (i : IVec S4x5760x1 32) (b : Fin 4) (t : Fin 5760) (k : Fin 768) :
    Host.gather gather_S4x8192x768_S4x5760x1_S4x5760x768_2_1_0_0_1_2_11768 x i (ix3 b t k)
      = x (ix3 b ⟨min (i (ix3 b t 0)).toInt.toNat 8191, by omega⟩ k) := by
  unfold Host.gather
  refine congrArg x (funext fun a => Fin.ext ?_)
  match a with
  | ⟨0, _⟩ => show 0 + b.val + 0 = b.val; omega
  | ⟨1, _⟩ =>
    show min (i _).toInt.toNat 8191 + 0 + 0 = min (i (ix3 b t 0)).toInt.toNat 8191
    refine congrArg (fun q => min (i q).toInt.toNat 8191) (funext fun a => Fin.ext ?_)
    match a with
    | ⟨0, _⟩ => rfl
    | ⟨1, _⟩ => rfl
    | ⟨2, _⟩ => rfl
  | ⟨2, _⟩ => show 0 + 0 + k.val = k.val; omega

/-- The kernel's take, at an entry. -/
theorem taken_apply (x : FVec Ideal S4x8192x768 .f32) (i : IVec S4x5760x1 32) (b : Fin 4) (t : Fin 5760) (k : Fin 768) :
    taken x i (ix3 b t k) = entry x b k (i (ix3 b t 0)) := by
  unfold taken entry
  refine congrArg₂ (fun (p : BitVec 1) (y : EReal) => Scalar.select p y (Ideal.ofBits .f32 0x7FC00000#32)) ?_ ?_
  · refine Eq.trans (b := inRange i (ix2 b t)) (congrArg (inRange i) (funext fun a => match a with | ⟨0, _⟩ => rfl | ⟨1, _⟩ => rfl)) ?_
    exact reduce_unit IntOp.andi _ _ _ _ b t
  · exact kernel_gather x (wrapped i) b t k

/-- The padded indices at one of the first 5734 positions. -/
theorem padded_apply (i : IVec S4x5734 32) (b : Fin 4) (t : Fin 5734) :
    padded i (ix3 b ⟨t.val, by omega⟩ 0) = i (ix2 b t) := by
  have e : ∀ q : IVec S4x5760 32, broadcastInDim S4x5760x1 ![0, 1] bcast_S4x5760_S4x5760x1_0_1 q (ix3 b ⟨t.val, by omega⟩ 0)
      = q (ix2 b ⟨t.val, by omega⟩) := fun q => congrArg q (funext fun a => match a with | ⟨0, _⟩ => rfl | ⟨1, _⟩ => rfl)
  unfold padded
  rw [e]
  exact pad_apply_of_inside _ _ _ i _ _ _ (ix2 b ⟨t.val, by omega⟩) (ix2 b t) fun a => match a with
    | ⟨0, _⟩ => by show b.val = 0 + b.val * (0 + 1); omega
    | ⟨1, _⟩ => by show t.val = 0 + t.val * (0 + 1); omega

/-- The kept tokens, at an entry. -/
theorem kept_apply (x : FVec Ideal S4x8192x768 .f32) (i : IVec S4x5734 32) (b : Fin 4) (t : Fin 5734) (k : Fin 768) :
    kept x i (ix3 b t k) = entry x b k (i (ix2 b t)) := by
  rw [← padded_apply i b t, ← taken_apply]
  unfold kept
  exact congrArg (taken x (padded i)) (funext fun a => Fin.ext (match a with
    | ⟨0, _⟩ => by show 0 + b.val = b.val; omega
    | ⟨1, _⟩ => by show 0 + t.val = t.val; omega
    | ⟨2, _⟩ => by show 0 + k.val = k.val; omega))

end Kernel

section Reference
open Cert.ReferenceIdeal Cert.ReferenceIdeal.Gen Cert.ReferenceIdeal.Value

/-- The reference's gather, at an entry. -/
theorem reference_gather (x : FVec Ideal S4x8192x768 .f32) (i : IVec S4x5734x1 32) (b : Fin 4) (t : Fin 5734) (k : Fin 768) :
    Host.gather gather_S4x8192x768_S4x5734x1_S4x5734x768_2_1_0_0_1_2_11768 x i (ix3 b t k)
      = x (ix3 b ⟨min (i (ix3 b t 0)).toInt.toNat 8191, by omega⟩ k) := by
  unfold Host.gather
  refine congrArg x (funext fun a => Fin.ext ?_)
  match a with
  | ⟨0, _⟩ => show 0 + b.val + 0 = b.val; omega
  | ⟨1, _⟩ =>
    show min (i _).toInt.toNat 8191 + 0 + 0 = min (i (ix3 b t 0)).toInt.toNat 8191
    refine congrArg (fun q => min (i q).toInt.toNat 8191) (funext fun a => Fin.ext ?_)
    match a with
    | ⟨0, _⟩ => rfl
    | ⟨1, _⟩ => rfl
    | ⟨2, _⟩ => rfl
  | ⟨2, _⟩ => show 0 + 0 + k.val = k.val; omega

/-- A take at positions given with a unit axis, at an entry: it depends only on the index word whose position is there. -/
theorem take_apply (x : FVec Ideal S4x8192x768 .f32) (i : IVec S4x5734x1 32) (b : Fin 4) (t : Fin 5734) (k : Fin 768)
    (w : BitVec 32) (hp : i (ix3 b t 0) = position w) :
    (select (broadcastInDim S4x5734x768 ![0, 1] bcast_S4x5734_S4x5734x768_0_1
        (Host.reduce IntOp.andi
          (andi (cmpi .sge i (broadcastInDim S4x5734x1 ![] bcast_S_S4x5734x1 (constantI S_ 32 0#32)))
            (cmpi .sle i (broadcastInDim S4x5734x1 ![0, 1, 2] bcast_S1x1x1_S4x5734x1_0_1_2
              (broadcastInDim S1x1x1 ![2] bcast_S1_S1x1x1_2 (constantI S1 32 8191#32)))))
          (constantI S_ 1 1#1) reducesTo_S4x5734x1_S4x5734_d2 h_S_))
      (Host.gather gather_S4x8192x768_S4x5734x1_S4x5734x768_2_1_0_0_1_2_11768 x i)
      (broadcastInDim S4x5734x768 ![] bcast_S_S4x5734x768 (constant (F := Ideal) S_ .f32 0x7FC00000#32)) : FVec Ideal S4x5734x768 .f32) (ix3 b t k)
      = entry x b k w := by
  unfold entry
  simp only [← hp]
  have e : ∀ (R : IVec S4x5734 1) (q : BitVec 1) (G : FVec Ideal S4x5734x768 .f32) (y : EReal),
      R (ix2 b t) = q → G (ix3 b t k) = y →
      select (broadcastInDim S4x5734x768 ![0, 1] bcast_S4x5734_S4x5734x768_0_1 R) G
        (broadcastInDim S4x5734x768 ![] bcast_S_S4x5734x768 (constant (F := Ideal) S_ .f32 0x7FC00000#32)) (ix3 b t k)
        = Scalar.select q y (Ideal.ofBits .f32 0x7FC00000#32) := by
    rintro R _ G _ rfl rfl
    refine congrArg (fun p => Scalar.select p (G (ix3 b t k)) (Ideal.ofBits .f32 0x7FC00000#32)) ?_
    exact congrArg R (funext fun a => match a with | ⟨0, _⟩ => rfl | ⟨1, _⟩ => rfl)
  have hr : ∀ (z : IVec S4x5734x1 1), Host.reduce IntOp.andi z (constantI S_ 1 1#1) reducesTo_S4x5734x1_S4x5734_d2 h_S_ (ix2 b t)
      = IntOp.andi (z (ix3 b t 0)) 1#1 := fun z => reduce_unit IntOp.andi z _ _ _ b t
  exact (e _ _ _ _ (hr _) (reference_gather x i b t k)).trans rfl

/-- The positions a take reads at, of indices given a unit axis. -/
theorem wrapped_apply (s : IVec S4x5734 32) (b : Fin 4) (t : Fin 5734) :
    select (cmpi .slt (broadcastInDim S4x5734x1 ![0, 1] bcast_S4x5734_S4x5734x1_0_1 s) (broadcastInDim S4x5734x1 ![] bcast_S_S4x5734x1 (constantI S_ 32 0#32)))
      (addi (broadcastInDim S4x5734x1 ![0, 1] bcast_S4x5734_S4x5734x1_0_1 s) (broadcastInDim S4x5734x1 ![] bcast_S_S4x5734x1 (constantI S_ 32 8192#32)))
      (broadcastInDim S4x5734x1 ![0, 1] bcast_S4x5734_S4x5734x1_0_1 s) (ix3 b t 0) = position (s (ix2 b t)) := by
  have hs : broadcastInDim S4x5734x1 ![0, 1] bcast_S4x5734_S4x5734x1_0_1 s (ix3 b t 0) = s (ix2 b t) :=
    congrArg s (funext fun a => match a with | ⟨0, _⟩ => rfl | ⟨1, _⟩ => rfl)
  exact congrArg position hs

/-- The indices the reference takes at. -/
def chosen (v : Valuation τ sig (Elt Ideal)) : IVec S4x5734 32 :=
  (Host.topK S4x5734 1 (FloatOps.cmpfTotal .gt) (res_main_v117 v) sliceFits_S4x8192_S4x5734).2

/-- The positions the reference takes at. -/
theorem positions_apply (v : Valuation τ sig (Elt Ideal)) (b : Fin 4) (t : Fin 5734) :
    res_main_call4_v4 v (ix3 b t 0) = position (chosen v (ix2 b t)) := by
  unfold chosen
  exact wrapped_apply _ b t

/-- The reference's take, at an entry. -/
theorem reference_apply (v : Valuation τ sig (Elt Ideal)) (b : Fin 4) (t : Fin 5734) (k : Fin 768) :
    (select (broadcastInDim S4x5734x768 ![0, 1] bcast_S4x5734_S4x5734x768_0_1
        (Host.reduce IntOp.andi
          (andi (cmpi .sge (res_main_call4_v4 v) (broadcastInDim S4x5734x1 ![] bcast_S_S4x5734x1 (constantI S_ 32 0#32)))
            (cmpi .sle (res_main_call4_v4 v) (broadcastInDim S4x5734x1 ![0, 1, 2] bcast_S1x1x1_S4x5734x1_0_1_2
              (broadcastInDim S1x1x1 ![2] bcast_S1_S1x1x1_2 (constantI S1 32 8191#32)))))
          (constantI S_ 1 1#1) reducesTo_S4x5734x1_S4x5734_d2 h_S_))
      (Host.gather gather_S4x8192x768_S4x5734x1_S4x5734x768_2_1_0_0_1_2_11768 (v (Proc.devRef .tc main_arg0)) (res_main_call4_v4 v))
      (broadcastInDim S4x5734x768 ![] bcast_S_S4x5734x768 (constant (F := Ideal) S_ .f32 0x7FC00000#32)) : FVec Ideal S4x5734x768 .f32) (ix3 b t k)
      = entry (v (Proc.devRef .tc main_arg0)) b k (chosen v (ix2 b t)) :=
  take_apply _ _ b t k _ (positions_apply v b t)

end Reference

end Cert.Take

end
-- ==== Proof.Reference.lean ====
/- The reference's scores: entry `(b, n)` of its 4 by 8192 array is the score of token `n` of batch member `b`. -/
module

public import proofs.«01_k».proof.Proof.Gen.ReferenceIdeal.Run
public import proofs.«01_k».proof.Proof.Score
public import Idealize.ShloMosaic.Lib.Pipeline.Value
public import Idealize.ShloMosaic.Lib.MatmulPlain

@[expose] public section

noncomputable section

namespace Cert.ReferenceIdeal.Scores

open Cert.ReferenceIdeal Cert.ReferenceIdeal.Gen
open Cert.ReferenceIdeal.Value (res_main_v3 res_main_v9 res_main_v10 res_main_v35 res_main_v96 res_main_v117)
open Idealize.ShloMosaic Idealize.ShloMosaic.TcCoe Idealize.ShloMosaic.ValueIdx
open Cert.Activation Cert.Score

/-- The first product: entry `(b, n, j)` sums over the 768 features. -/
theorem firstProduct_apply (x : FVec Ideal S4x8192x768 .f32) (W1 : FVec Ideal S768x96 .f32) (b : Fin 4) (n : Fin 8192)
    (j : Fin 96) :
    Host.dotGeneral dot_S4x8192x768_S768x96_S4x8192x96_2_0_01_1_n_n none x W1 (ix3 b n j)
      = ∑ k : Fin 768, x (ix3 b n k) * W1 (ix2 k j) := by
  show FloatOps.dotGeneral _ none _ x W1 (ix3 b n j) = _
  rw [Ideal.dotGeneral_apply,
    ← Equiv.sum_comp (contrEquiv1 dot_S4x8192x768_S768x96_S4x8192x96_2_0_01_1_n_n 768 rfl rfl).symm]
  refine Finset.sum_congr rfl fun k _ => ?_
  have hk := contrEquiv1_symm_val dot_S4x8192x768_S768x96_S4x8192x96_2_0_01_1_n_n 768 rfl rfl k
  have el : dot_S4x8192x768_S768x96_S4x8192x96_2_0_01_1_n_n.lhsIdx (ix3 b n j)
      ((contrEquiv1 dot_S4x8192x768_S768x96_S4x8192x96_2_0_01_1_n_n 768 rfl rfl).symm k) = ix3 b n k := by
    funext a; apply Fin.ext
    match a with
    | ⟨0, _⟩ => rfl
    | ⟨1, _⟩ => rfl
    | ⟨2, _⟩ => exact hk
  have er : dot_S4x8192x768_S768x96_S4x8192x96_2_0_01_1_n_n.rhsIdx (ix3 b n j)
      ((contrEquiv1 dot_S4x8192x768_S768x96_S4x8192x96_2_0_01_1_n_n 768 rfl rfl).symm k) = ix2 k j := by
    funext a; apply Fin.ext
    match a with
    | ⟨0, _⟩ => exact hk
    | ⟨1, _⟩ => rfl
  rw [el, er]

/-- The second product: entry `(b, n, 0)` sums over the 96 hidden units. -/
theorem secondProduct_apply (h : FVec Ideal S4x8192x96 .f32) (W2 : FVec Ideal S96x1 .f32) (b : Fin 4) (n : Fin 8192) :
    Host.dotGeneral dot_S4x8192x96_S96x1_S4x8192x1_2_0_01_1_n_n none h W2 (ix3 b n 0)
      = ∑ j : Fin 96, h (ix3 b n j) * W2 (ix2 j 0) := by
  show FloatOps.dotGeneral _ none _ h W2 (ix3 b n 0) = _
  rw [Ideal.dotGeneral_apply,
    ← Equiv.sum_comp (contrEquiv1 dot_S4x8192x96_S96x1_S4x8192x1_2_0_01_1_n_n 96 rfl rfl).symm]
  refine Finset.sum_congr rfl fun j _ => ?_
  have hk := contrEquiv1_symm_val dot_S4x8192x96_S96x1_S4x8192x1_2_0_01_1_n_n 96 rfl rfl j
  have el : dot_S4x8192x96_S96x1_S4x8192x1_2_0_01_1_n_n.lhsIdx (ix3 b n 0)
      ((contrEquiv1 dot_S4x8192x96_S96x1_S4x8192x1_2_0_01_1_n_n 96 rfl rfl).symm j) = ix3 b n j := by
    funext a; apply Fin.ext
    match a with
    | ⟨0, _⟩ => rfl
    | ⟨1, _⟩ => rfl
    | ⟨2, _⟩ => exact hk
  have er : dot_S4x8192x96_S96x1_S4x8192x1_2_0_01_1_n_n.rhsIdx (ix3 b n 0)
      ((contrEquiv1 dot_S4x8192x96_S96x1_S4x8192x1_2_0_01_1_n_n 96 rfl rfl).symm j) = ix2 j 0 := by
    funext a; apply Fin.ext
    match a with
    | ⟨0, _⟩ => exact hk
    | ⟨1, _⟩ => rfl
  rw [el, er]

variable (v : Valuation τ sig (Elt Ideal))

/-- The reference's preactivations, at token `(b, n)` and unit `j`. -/
theorem preactivation_apply (b : Fin 4) (n : Fin 8192) (j : Fin 96) :
    res_main_v3 v (ix3 b n j) = preact (fun k => v (Proc.devRef .tc main_arg0) (ix3 b n k)) (v (Proc.devRef .tc main_arg1))
      (v (Proc.devRef .tc main_arg2)) j := by
  unfold res_main_v3 preact
  refine congrArg₂ (· + ·) (firstProduct_apply _ _ b n j) ?_
  exact congrArg (v (Proc.devRef .tc main_arg2)) (funext fun a => match a with | ⟨0, _⟩ => rfl)

/-- The reference's scores, at token `(b, n)`. -/
theorem scores_apply (b : Fin 4) (n : Fin 8192) :
    res_main_v117 v (ix2 b n) = score (fun k => v (Proc.devRef .tc main_arg0) (ix3 b n k)) (v (Proc.devRef .tc main_arg1))
      (v (Proc.devRef .tc main_arg2)) (v (Proc.devRef .tc main_arg3)) (v (Proc.devRef .tc main_arg4)) := by
  have e : ∀ act : FVec Ideal S4x8192x96 .f32, (∀ i, act i = gelu (res_main_v3 v i)) →
      sigmoid (shapeCast S4x8192 (addf (Host.dotGeneral (φ₁ := .f32) (φ₂ := .f32) dot_S4x8192x96_S96x1_S4x8192x1_2_0_01_1_n_n none act
            (v (Proc.devRef .tc main_arg3)))
          (broadcastInDim S4x8192x1 ![0, 1, 2] bcast_S1x1x1_S4x8192x1_0_1_2
            (broadcastInDim S1x1x1 ![2] bcast_S1_S1x1x1_2 (v (Proc.devRef .tc main_arg4)))))
          shapeCasts_S4x8192x1_S4x8192 (ix2 b n))
        = score (fun k => v (Proc.devRef .tc main_arg0) (ix3 b n k)) (v (Proc.devRef .tc main_arg1))
      (v (Proc.devRef .tc main_arg2)) (v (Proc.devRef .tc main_arg3)) (v (Proc.devRef .tc main_arg4)) := by
    intro act hact
    rw [shapeCast_apply _ _ (ix2 b n) (ix3 b n 0) (by
      rw [Shape.rowMajor_val_two, Shape.rowMajor_val_three]
      show (b.val * 8192 + n.val) * 1 + 0 = b.val * 8192 + n.val
      omega)]
    unfold score logit
    refine congrArg sigmoid (congrArg₂ (· + ·) ((secondProduct_apply _ _ b n).trans ?_) ?_)
    · refine Finset.sum_congr rfl fun j _ => ?_
      rw [hact, preactivation_apply]
    · exact congrArg (v (Proc.devRef .tc main_arg4)) (funext fun a => match a with | ⟨0, _⟩ => rfl)
  exact e _ (fun i => rfl)

end Cert.ReferenceIdeal.Scores

end
-- ==== Proof.Equation.lean ====
/- The two programs' results are equal: the scores are, entry by entry; so the chosen indices are; so the tokens taken at
   them are. -/
module

public import proofs.«01_k».proof.Proof.Take
public import proofs.«01_k».proof.Proof.Reference

@[expose] public section

noncomputable section

namespace Cert.Equation

open Idealize.ShloMosaic Idealize.ShloMosaic.TcCoe Idealize.ShloMosaic.ValueIdx Idealize.SL.Sem
open Cert.KernelIdeal.KernelRun Cert.Take

variable (m : (ℓ : Loc Cert.KernelIdeal.nD Cert.KernelIdeal.τ Cert.KernelIdeal.sig) → Buf (Elt Ideal) ℓ)
  (v : Valuation Cert.ReferenceIdeal.τ Cert.ReferenceIdeal.sig (Elt Ideal)) (c : Dev Cert.KernelIdeal.nD)

/-- Device `c`'s arguments in the kernel's memory are the reference's. -/
abbrev Agree : Prop :=
  v (Proc.devRef .tc Cert.ReferenceIdeal.main_arg0) = m ((c : Thread Cert.KernelIdeal.nD Cert.KernelIdeal.τ).loc Cert.KernelIdeal.main_arg0)
  ∧ v (Proc.devRef .tc Cert.ReferenceIdeal.main_arg1) = m ((c : Thread Cert.KernelIdeal.nD Cert.KernelIdeal.τ).loc Cert.KernelIdeal.main_arg1)
  ∧ v (Proc.devRef .tc Cert.ReferenceIdeal.main_arg2) = m ((c : Thread Cert.KernelIdeal.nD Cert.KernelIdeal.τ).loc Cert.KernelIdeal.main_arg2)
  ∧ v (Proc.devRef .tc Cert.ReferenceIdeal.main_arg3) = m ((c : Thread Cert.KernelIdeal.nD Cert.KernelIdeal.τ).loc Cert.KernelIdeal.main_arg3)
  ∧ v (Proc.devRef .tc Cert.ReferenceIdeal.main_arg4) = m ((c : Thread Cert.KernelIdeal.nD Cert.KernelIdeal.τ).loc Cert.KernelIdeal.main_arg4)

/-- The kernel's score of token `n` of batch member `b`, in terms of its arguments. -/
theorem scoreRows_apply (b : Fin 4) (n : Fin 8192) :
    scoreRows m c (ix2 b n) = Score.score (fun k => m ((c : Thread Cert.KernelIdeal.nD Cert.KernelIdeal.τ).loc Cert.KernelIdeal.main_arg0) (ix3 b n k))
      (m ((c : Thread Cert.KernelIdeal.nD Cert.KernelIdeal.τ).loc Cert.KernelIdeal.main_arg1))
      (m ((c : Thread Cert.KernelIdeal.nD Cert.KernelIdeal.τ).loc Cert.KernelIdeal.main_arg2))
      (m ((c : Thread Cert.KernelIdeal.nD Cert.KernelIdeal.τ).loc Cert.KernelIdeal.main_arg3))
      (m ((c : Thread Cert.KernelIdeal.nD Cert.KernelIdeal.τ).loc Cert.KernelIdeal.main_arg4)) := by
  have hr : b.val * 8192 + n.val < 32768 := by omega
  unfold scoreRows
  rw [shapeCast_apply _ _ (ix2 b n) (ix2 0 ⟨b.val * 8192 + n.val, hr⟩) (by
    rw [Shape.rowMajor_val_two, Shape.rowMajor_val_two]
    show 0 * 32768 + (b.val * 8192 + n.val) = b.val * 8192 + n.val
    omega)]
  unfold Cert.KernelIdeal.Array.scores
  rw [Cert.KernelIdeal.Gen.V_main_arg1, Cert.KernelIdeal.Gen.V_main_arg2, Cert.KernelIdeal.Gen.V_main_arg3,
    Cert.KernelIdeal.Gen.V_main_arg4, V_main_v0]
  refine congrArg (fun x => Score.score x _ _ _ _) (funext fun k => ?_)
  exact shapeCast_apply _ _ (ix2 ⟨b.val * 8192 + n.val, hr⟩ k) (ix3 b n k) (by
    rw [Shape.rowMajor_val_two, Shape.rowMajor_val_three]
    rfl)

variable {m v c} (h : Agree m v c)
include h

/-- The scores are equal. -/
theorem scores_eq : scoreRows m c = Cert.ReferenceIdeal.Value.res_main_v117 v := by
  obtain ⟨h0, h1, h2, h3, h4⟩ := h
  funext i
  have hi : i = ix2 (i 0) (i 1) := funext fun a => match a with | ⟨0, _⟩ => rfl | ⟨1, _⟩ => rfl
  rw [hi]
  refine (scoreRows_apply m c (i 0) (i 1)).trans (Eq.trans ?_ (Cert.ReferenceIdeal.Scores.scores_apply v (i 0) (i 1)).symm)
  rw [h0, h1, h2, h3, h4]

/-- So the chosen indices are equal. -/
theorem indices_eq : top (scoreRows m c) = chosen v := by
  rw [scores_eq h]
  rfl

/-- So the tokens taken are equal. -/
theorem kept_eq (b : Fin 4) (t : Fin 5734) (k : Fin 768) :
    kept (m ((c : Thread Cert.KernelIdeal.nD Cert.KernelIdeal.τ).loc Cert.KernelIdeal.main_arg0)) (top (scoreRows m c)) (ix3 b t k)
      = entry (v (Proc.devRef .tc Cert.ReferenceIdeal.main_arg0)) b k (chosen v (ix2 b t)) := by
  rw [kept_apply, indices_eq h, ← h.1]

end Cert.Equation

end
-- ==== Proof.Gauss.lean ====
/- The area under the bell curve, from the definitions: the derivative of an integral in its upper end, the derivative of
   the arc tangent, and `(∫ t in 0..x, exp (-t²))² + ∫ t in 0..1, exp (-x² (1 + t²)) / (1 + t²) = π / 4` for every `x`,
   whose second term is at most `exp (-x²)`. -/
module

public import Mathlib.MeasureTheory.Integral.IntervalIntegral.Basic
public import Mathlib.Analysis.SpecialFunctions.Trigonometric.Arctan
public import Mathlib.Analysis.SpecialFunctions.ExpDeriv
public import Mathlib.Analysis.Calculus.Deriv.Inverse
public import Mathlib.Analysis.Calculus.Deriv.Inv
public import Mathlib.Analysis.Calculus.Deriv.Pow
public import Mathlib.Analysis.Calculus.MeanValue
public import Mathlib.Analysis.Complex.RealDeriv

@[expose] public section

noncomputable section

namespace Cert.Gauss

open intervalIntegral

/-- The integral of a continuous function from `0` has the function for its derivative in the upper end. -/
theorem hasDerivAt_integral (f : ℝ → ℝ) (hf : Continuous f) (x : ℝ) :
    HasDerivAt (fun y => ∫ t in (0 : ℝ)..y, f t) (f x) x := by
  rw [hasDerivAt_iff_isLittleO, Asymptotics.isLittleO_iff]
  intro c hc
  obtain ⟨δ, hδ, hd⟩ := Metric.continuous_iff.mp hf x c hc
  filter_upwards [Metric.ball_mem_nhds x hδ] with y hy
  have h1 : (∫ t in (0 : ℝ)..y, f t) - ∫ t in (0 : ℝ)..x, f t = ∫ t in x..y, f t :=
    integral_interval_sub_left (hf.intervalIntegrable _ _) (hf.intervalIntegrable _ _)
  have h2 : (y - x) • f x = ∫ _ in x..y, f x := (integral_const (f x)).symm
  rw [h1, h2, ← integral_sub (hf.intervalIntegrable _ _) intervalIntegrable_const, Real.norm_eq_abs (y - x)]
  refine norm_integral_le_of_norm_le_const fun t ht => ?_
  rw [← dist_eq_norm]
  refine (hd t ?_).le
  rw [Metric.mem_ball, Real.dist_eq] at hy
  rw [Real.dist_eq]
  have hb := Set.uIoc_subset_uIcc ht
  have e := Set.abs_sub_left_of_mem_uIcc hb
  exact e.trans_lt hy

/-- The sine's derivative is the cosine. -/
theorem hasDerivAt_sin (x : ℝ) : HasDerivAt Real.sin (Real.cos x) x := by
  have h1 : HasDerivAt (fun z : ℂ => Complex.exp (-z * Complex.I)) (Complex.exp (-(x : ℂ) * Complex.I) * (-1 * Complex.I)) (x : ℂ) :=
    ((hasDerivAt_id (x : ℂ)).neg.mul_const Complex.I).cexp
  have h2 : HasDerivAt (fun z : ℂ => Complex.exp (z * Complex.I)) (Complex.exp ((x : ℂ) * Complex.I) * (1 * Complex.I)) (x : ℂ) :=
    ((hasDerivAt_id (x : ℂ)).mul_const Complex.I).cexp
  have h3 : HasDerivAt Complex.sin (Complex.cos x) (x : ℂ) := by
    refine HasDerivAt.congr_deriv (((h1.sub h2).mul_const Complex.I).div_const 2) ?_
    rw [Complex.cos]
    linear_combination ((-Complex.exp (-(x : ℂ) * Complex.I) - Complex.exp ((x : ℂ) * Complex.I)) / 2) * Complex.I_mul_I
  have h4 := h3.real_of_complex
  rw [← Complex.ofReal_cos, Complex.ofReal_re] at h4
  refine h4.congr_of_eventuallyEq (Filter.Eventually.of_forall fun y => ?_)
  show Real.sin y = (Complex.sin y).re
  rw [← Complex.ofReal_sin, Complex.ofReal_re]

/-- The cosine's derivative is the sine's opposite. -/
theorem hasDerivAt_cos (x : ℝ) : HasDerivAt Real.cos (-Real.sin x) x := by
  have h := (hasDerivAt_sin (Real.pi / 2 - x)).comp x ((hasDerivAt_id x).const_sub (Real.pi / 2))
  rw [Real.cos_pi_div_two_sub] at h
  refine (h.congr_deriv (by ring)).congr_of_eventuallyEq (Filter.Eventually.of_forall fun y => ?_)
  exact (Real.sin_pi_div_two_sub y).symm

/-- The arc tangent's derivative. -/
theorem hasDerivAt_arctan (x : ℝ) : HasDerivAt Real.arctan (1 / (1 + x ^ 2)) x := by
  have hc : Real.cos (Real.arctan x) ≠ 0 := (Real.cos_arctan_pos x).ne'
  have ht : HasDerivAt (fun y => Real.sin y / Real.cos y) (1 + x ^ 2) (Real.arctan x) := by
    refine ((hasDerivAt_sin _).div (hasDerivAt_cos _) hc).congr_deriv ?_
    have e : Real.sin (Real.arctan x) = x * Real.cos (Real.arctan x) := by
      rw [← div_eq_iff hc, ← Real.tan_eq_sin_div_cos, Real.tan_arctan]
    rw [e]; field_simp; ring
  have h := HasDerivAt.of_local_left_inverse (f := fun y => Real.sin y / Real.cos y) Real.continuous_arctan.continuousAt ht
    (by positivity) (Filter.Eventually.of_forall fun y => by
      show Real.sin _ / Real.cos _ = y
      rw [← Real.tan_eq_sin_div_cos, Real.tan_arctan])
  rwa [one_div]

/-- The area under the bell curve from `0`. -/
def area (x : ℝ) : ℝ := ∫ t in (0 : ℝ)..x, Real.exp (-(t ^ 2))

/-- The bell curve is continuous. -/
theorem continuous_bell : Continuous fun t : ℝ => Real.exp (-(t ^ 2)) := by fun_prop

/-- The area's derivative is the curve. -/
theorem hasDerivAt_area (x : ℝ) : HasDerivAt area (Real.exp (-(x ^ 2))) x :=
  hasDerivAt_integral _ continuous_bell x

/-- The area from 0 to 0 is zero. -/
theorem area_zero : area 0 = 0 := integral_same

/-- The area is odd. -/
theorem area_neg (x : ℝ) : area (-x) = -area x := by
  have h := integral_comp_neg (a := 0) (b := x) fun t : ℝ => Real.exp (-(t ^ 2))
  simp only [neg_sq, neg_zero] at h
  rw [area, area, h, integral_symm]

/-- What is missing from `π / 4` in the area's square. -/
def rest (x : ℝ) : ℝ := ∫ t in (0 : ℝ)..1, Real.exp (-(x ^ 2 * (1 + t ^ 2))) / (1 + t ^ 2)

/-- The second integrand is continuous. -/
theorem continuous_rest (x : ℝ) : Continuous fun t : ℝ => Real.exp (-(x ^ 2 * (1 + t ^ 2))) / (1 + t ^ 2) :=
  Continuous.div (by fun_prop) (by fun_prop) fun t => by positivity

/-- The second integral at 0 is π / 4. -/
theorem rest_zero : rest 0 = Real.pi / 4 := by
  have hd : ∀ x : ℝ, HasDerivAt (fun y => (∫ t in (0 : ℝ)..y, Real.exp (-(0 ^ 2 * (1 + t ^ 2))) / (1 + t ^ 2)) - Real.arctan y) 0 x := by
    intro x
    refine ((hasDerivAt_integral _ (continuous_rest 0) x).sub (hasDerivAt_arctan x)).congr_deriv ?_
    simp
  have h := is_const_of_deriv_eq_zero (fun x => (hd x).differentiableAt) (fun x => (hd x).deriv) 1 0
  simp only [integral_same, Real.arctan_zero, sub_zero, Real.arctan_one] at h
  rw [rest]; linarith

/-- It is not negative. -/
theorem rest_nonneg (x : ℝ) : 0 ≤ rest x :=
  integral_nonneg zero_le_one fun t _ => by positivity

/-- It is at most the bell curve. -/
theorem rest_le (x : ℝ) : rest x ≤ Real.exp (-(x ^ 2)) := by
  have h : rest x ≤ ∫ _ in (0 : ℝ)..1, Real.exp (-(x ^ 2)) := by
    refine integral_mono_on zero_le_one ((continuous_rest x).intervalIntegrable _ _) intervalIntegrable_const fun t _ => ?_
    refine (div_le_self (Real.exp_nonneg _) (by nlinarith [sq_nonneg t])).trans (Real.exp_le_exp.mpr ?_)
    nlinarith [mul_nonneg (sq_nonneg x) (sq_nonneg t)]
  simpa using h

/-- The integrand's change in `x`, to first order. -/
theorem rest_step (x y t M : ℝ) (hM : |y + x| ≤ M) (hs : 2 * (|y - x| * M) ≤ 1) (ht : t ^ 2 ≤ 1) :
    |Real.exp (-(y ^ 2 * (1 + t ^ 2))) / (1 + t ^ 2) - Real.exp (-(x ^ 2 * (1 + t ^ 2))) / (1 + t ^ 2)
      - (y - x) * (-2 * x * Real.exp (-(x ^ 2 * (1 + t ^ 2))))| ≤ (2 * M ^ 2 + 1) * (y - x) ^ 2 := by
  set s := 1 + t ^ 2 with hs'
  have s1 : 1 ≤ s := by nlinarith [sq_nonneg t]
  have s2 : s ≤ 2 := by linarith
  set u := -((y - x) * (y + x) * s) with hu
  have ha : |(y - x) * (y + x)| ≤ |y - x| * M := by
    rw [abs_mul]; exact mul_le_mul_of_nonneg_left hM (abs_nonneg _)
  have hub : |u| ≤ 1 := by
    rw [hu, abs_neg, abs_mul, abs_of_pos (by linarith : 0 < s)]
    nlinarith [abs_nonneg ((y - x) * (y + x))]
  have he := Real.abs_exp_sub_one_sub_id_le hub
  have hE : Real.exp (-(x ^ 2 * s)) ≤ 1 := Real.exp_le_one_iff.mpr (by nlinarith [mul_nonneg (sq_nonneg x) (by linarith : 0 ≤ s)])
  have hE0 := Real.exp_nonneg (-(x ^ 2 * s))
  have hy : Real.exp (-(y ^ 2 * s)) = Real.exp (-(x ^ 2 * s)) * Real.exp u := by
    rw [← Real.exp_add, hu]; congr 1; ring
  have e : Real.exp (-(y ^ 2 * s)) / s - Real.exp (-(x ^ 2 * s)) / s - (y - x) * (-2 * x * Real.exp (-(x ^ 2 * s)))
      = Real.exp (-(x ^ 2 * s)) * ((Real.exp u - 1 - u) / s - (y - x) ^ 2) := by
    rw [hy, hu]; field_simp; ring
  rw [e, abs_mul, abs_of_nonneg hE0]
  refine (mul_le_of_le_one_left (abs_nonneg _) hE).trans ((abs_sub _ _).trans ?_)
  rw [abs_div, abs_of_pos (by linarith : 0 < s), abs_of_nonneg (sq_nonneg (y - x))]
  have h1 : |Real.exp u - 1 - u| / s ≤ 2 * M ^ 2 * (y - x) ^ 2 := by
    rw [div_le_iff₀ (by linarith)]
    refine he.trans ?_
    have hq : ((y - x) * (y + x)) ^ 2 ≤ M ^ 2 * (y - x) ^ 2 := by
      have := pow_le_pow_left₀ (abs_nonneg _) ha 2
      rw [sq_abs, mul_pow (|y - x|), sq_abs] at this
      linarith
    rw [hu]
    nlinarith [mul_nonneg (sq_nonneg M) (sq_nonneg (y - x)), sq_nonneg ((y - x) * (y + x)),
      mul_le_mul_of_nonneg_right hq (by nlinarith : 0 ≤ s ^ 2), mul_nonneg (mul_nonneg (sq_nonneg M) (sq_nonneg (y - x))) (by nlinarith : 0 ≤ s * (2 - s))]
  linarith

/-- Its derivative is the opposite of that of the area's square. -/
theorem hasDerivAt_rest (x : ℝ) : HasDerivAt rest (-2 * Real.exp (-(x ^ 2)) * area x) x := by
  have hv : -2 * Real.exp (-(x ^ 2)) * area x = ∫ t in (0 : ℝ)..1, -2 * x * Real.exp (-(x ^ 2 * (1 + t ^ 2))) := by
    have h := smul_integral_comp_mul_left (a := 0) (b := 1) (fun t : ℝ => Real.exp (-(t ^ 2))) x
    rw [mul_zero, mul_one, smul_eq_mul] at h
    rw [area, ← h, integral_const_mul]
    have e : ∀ t : ℝ, Real.exp (-(x ^ 2 * (1 + t ^ 2))) = Real.exp (-(x ^ 2)) * Real.exp (-((x * t) ^ 2)) := by
      intro t; rw [← Real.exp_add]; congr 1; ring
    simp only [e, integral_const_mul]
    ring
  have hcont : Continuous fun t : ℝ => -2 * x * Real.exp (-(x ^ 2 * (1 + t ^ 2))) := by fun_prop
  rw [hv, hasDerivAt_iff_isLittleO, Asymptotics.isLittleO_iff]
  intro c hc
  set M := 2 * |x| + 1 with hM
  have hM1 : 1 ≤ M := by have := abs_nonneg x; linarith
  have hK : 0 < 2 * M ^ 2 + 1 := by positivity
  set δ := min (1 / (2 * M)) (c / (2 * M ^ 2 + 1)) with hδ
  have hδ0 : 0 < δ := lt_min (by positivity) (by positivity)
  filter_upwards [Metric.ball_mem_nhds x hδ0] with y hy
  rw [Metric.mem_ball, Real.dist_eq] at hy
  have hy1 : |y - x| ≤ 1 / (2 * M) := hy.le.trans (min_le_left _ _)
  have hy2 : |y - x| ≤ c / (2 * M ^ 2 + 1) := hy.le.trans (min_le_right _ _)
  have hy3 : 2 * (|y - x| * M) ≤ 1 := by
    rw [le_div_iff₀ (by positivity)] at hy1; linarith
  have hy4 : |y + x| ≤ M := by
    have h1 : |y - x| ≤ 1 := by nlinarith [abs_nonneg (y - x)]
    have h2 : |y + x| ≤ |y - x| + |2 * x| := by
      have := abs_add_le (y - x) (2 * x); rwa [show y - x + 2 * x = y + x by ring] at this
    rw [abs_mul, abs_of_pos (by norm_num : (0 : ℝ) < 2)] at h2
    linarith
  rw [rest, rest, ← integral_sub ((continuous_rest y).intervalIntegrable _ _) ((continuous_rest x).intervalIntegrable _ _),
    smul_eq_mul, ← integral_const_mul,
    ← integral_sub (IntervalIntegrable.sub ((continuous_rest y).intervalIntegrable _ _)
      ((continuous_rest x).intervalIntegrable _ _)) ((hcont.intervalIntegrable _ _).const_mul (y - x))]
  refine (norm_integral_le_of_norm_le_const (C := (2 * M ^ 2 + 1) * (y - x) ^ 2) fun t ht => ?_).trans ?_
  · rw [Set.uIoc_of_le zero_le_one, Set.mem_Ioc] at ht
    exact rest_step x y t M hy4 hy3 (by nlinarith)
  · rw [sub_zero, abs_one, mul_one, Real.norm_eq_abs, ← sq_abs (y - x)]
    rw [le_div_iff₀ hK] at hy2
    nlinarith [mul_le_mul_of_nonneg_right hy2 (abs_nonneg (y - x))]

/-- The area's square and the rest make up `π / 4`. -/
theorem area_sq_add_rest (x : ℝ) : area x ^ 2 + rest x = Real.pi / 4 := by
  have hd : ∀ x : ℝ, HasDerivAt (fun y => area y ^ 2 + rest y) 0 x := by
    intro x
    refine (((hasDerivAt_area x).pow 2).add (hasDerivAt_rest x)).congr_deriv ?_
    simp; ring
  have h := is_const_of_deriv_eq_zero (fun x => (hd x).differentiableAt) (fun x => (hd x).deriv) x 0
  simp only [area_zero, rest_zero] at h
  linarith

end Cert.Gauss

end
-- ==== Proof.Poly.lean ====
/- Bounds of polynomials with rational coefficients on an interval, by exact arithmetic: the interval is cut in equal
   pieces, the polynomial is rewritten in powers of the distance from each piece's middle, and there its absolute value
   is at most the sum of its coefficients' absolute values times the powers of half the piece's length. -/
module

public import Mathlib.Analysis.Calculus.Deriv.Mul
public import Mathlib.Analysis.Calculus.Deriv.Add
public import Mathlib.Analysis.Real.Sqrt

@[expose] public section

namespace Cert.Poly

/-- The polynomial with these coefficients, the lowest power first, at a real number. -/
noncomputable def eval : List ℚ → ℝ → ℝ
  | [], _ => 0
  | c :: cs, x => (c : ℝ) + x * eval cs x

/-- Its derivative, by the product rule on the nested form. -/
noncomputable def slope : List ℚ → ℝ → ℝ
  | [], _ => 0
  | _ :: cs, x => eval cs x + x * slope cs x

/-- A polynomial's derivative at a point. -/
theorem hasDerivAt_eval (cs : List ℚ) (x : ℝ) : HasDerivAt (eval cs) (slope cs x) x := by
  induction cs with
  | nil => exact hasDerivAt_const x 0
  | cons c cs ih =>
    have h := ((hasDerivAt_id x).mul ih).const_add (c : ℝ)
    simpa [eval, slope] using h

/-! ## Operations on the lists of coefficients -/

/-- The coefficients of the sum. -/
def add : List ℚ → List ℚ → List ℚ
  | [], ds => ds
  | c :: cs, [] => c :: cs
  | c :: cs, d :: ds => (c + d) :: add cs ds

/-- The sum's value is the sum of the values. -/
theorem eval_add (cs ds : List ℚ) (x : ℝ) : eval (add cs ds) x = eval cs x + eval ds x := by
  induction cs generalizing ds with
  | nil => simp [add, eval]
  | cons c cs ih =>
    cases ds with
    | nil => simp [add, eval]
    | cons d ds => simp only [add, eval, ih, Rat.cast_add]; ring

/-- The coefficients of the multiple by `k`. -/
def scale (k : ℚ) (cs : List ℚ) : List ℚ := cs.map (k * ·)

/-- A multiple's value is the multiple of the value. -/
theorem eval_scale (k : ℚ) (cs : List ℚ) (x : ℝ) : eval (scale k cs) x = k * eval cs x := by
  induction cs with
  | nil => simp [scale, eval]
  | cons c cs ih =>
    rw [scale] at ih
    simp only [scale, List.map_cons, eval, ih, Rat.cast_mul]; ring

/-- The coefficients of the derivative. -/
def derivative : List ℚ → List ℚ
  | [] => []
  | _ :: cs => add cs (0 :: derivative cs)

/-- The derivative polynomial's value is the slope. -/
theorem eval_derivative (cs : List ℚ) (x : ℝ) : eval (derivative cs) x = slope cs x := by
  induction cs with
  | nil => rfl
  | cons c cs ih => simp only [derivative, eval_add, eval, slope, ih, Rat.cast_zero, zero_add]

/-! ## Bounds -/

/-- The coefficients of `c + (t + m) p(t)`. -/
def mulAdd (c m : ℚ) : List ℚ → List ℚ
  | [] => [c]
  | p :: ps => (c + m * p) :: mulAdd p m ps

/-- One step of the rewriting in powers of a distance. -/
theorem eval_mulAdd (c m : ℚ) (ps : List ℚ) (t : ℝ) : eval (mulAdd c m ps) t = c + (t + m) * eval ps t := by
  induction ps generalizing c with
  | nil => simp [mulAdd, eval]
  | cons p ps ih => simp only [mulAdd, eval, ih, Rat.cast_add, Rat.cast_mul]; ring

/-- The coefficients of the polynomial in powers of the distance from `m`. -/
def recentre (m : ℚ) : List ℚ → List ℚ
  | [] => []
  | c :: cs => mulAdd c m (recentre m cs)

/-- The rewritten polynomial at a distance is the polynomial at the point. -/
theorem eval_recentre (m : ℚ) (cs : List ℚ) (t : ℝ) : eval (recentre m cs) t = eval cs (t + m) := by
  induction cs with
  | nil => rfl
  | cons c cs ih => simp only [recentre, eval_mulAdd, ih, eval]

/-- The sum of the coefficients' absolute values times the powers of `h`. -/
def size (h : ℚ) : List ℚ → ℚ
  | [] => 0
  | c :: cs => |c| + h * size h cs

/-- A polynomial is at most its size on the interval around zero. -/
theorem abs_eval_le (h : ℚ) (cs : List ℚ) (t : ℝ) (ht : |t| ≤ h) : |eval cs t| ≤ (size h cs : ℝ) := by
  induction cs with
  | nil => simp [eval, size]
  | cons c cs ih =>
    simp only [eval, size, Rat.cast_add, Rat.cast_mul, Rat.cast_abs]
    refine (abs_add_le _ _).trans (add_le_add le_rfl ?_)
    rw [abs_mul]
    exact mul_le_mul ht ih (abs_nonneg _) ((abs_nonneg _).trans ht)

/-- Whether the polynomial is seen to be at most `d` in absolute value on `n` pieces of half-length `h` from `lo` on. -/
def within (d h : ℚ) (cs : List ℚ) : ℕ → ℚ → Bool
  | 0, _ => true
  | n + 1, lo => decide (size h (recentre (lo + h) cs) ≤ d) && within d h cs n (lo + 2 * h)

/-- If it is seen to be, it is. -/
theorem abs_eval_le_of_within (d h : ℚ) (cs : List ℚ) (n : ℕ) (lo : ℚ) (hw : within d h cs n lo = true) (x : ℝ)
    (h0 : (lo : ℝ) ≤ x) (h1 : x ≤ lo + 2 * h * n) (hn : 0 < n) : |eval cs x| ≤ (d : ℝ) := by
  induction n generalizing lo with
  | zero => exact absurd hn (lt_irrefl 0)
  | succ n ih =>
    simp only [within, Bool.and_eq_true, decide_eq_true_eq] at hw
    by_cases hx : x ≤ lo + 2 * h
    · have ht : |x - (lo + h : ℚ)| ≤ (h : ℝ) := by
        rw [abs_le]; push_cast; constructor <;> linarith
      have e := abs_eval_le h (recentre (lo + h) cs) (x - (lo + h : ℚ)) ht
      rw [eval_recentre, sub_add_cancel] at e
      exact e.trans (by exact_mod_cast hw.1)
    · push Not at hx
      have hn' : 0 < n := by
        rcases Nat.eq_zero_or_pos n with rfl | hp
        · exfalso; push_cast at h1; linarith
        · exact hp
      refine ih (lo + 2 * h) hw.2 ?_ ?_ hn'
      · push_cast; exact hx.le
      · push_cast; push_cast at h1; linarith

end Cert.Poly
-- ==== Proof.Coefficients.lean ====
/- The coefficients of the expansion of the complementary error function as rational numbers, and the bounds on the
   polynomials made from them that its distance from the exact function rests on. -/
module

public import proofs.«01_k».proof.Proof.Poly

@[expose] public section

namespace Cert.Coefficients

open Cert.Poly

/-- The rational number a 32-bit float word denotes when its exponent field is between 1 and 150. -/
def value (b : BitVec 32) : ℚ :=
  (if b.toNat / 2 ^ 31 = 1 then -1 else 1) * ((2 ^ 23 + b.toNat % 2 ^ 23 : ℕ) : ℚ)
    / ((2 ^ (150 - b.toNat / 2 ^ 23 % 2 ^ 8) : ℕ) : ℚ)

/-- The words of the polynomial of the small arguments, the lowest power first. -/
def nearWords : List (BitVec 32) :=
  [0x3F906EBA#32, 0xBEC0939F#32, 0x3DE7167C#32, 0xBCDBFC87#32, 0x3BAA02D9#32, 0xBA51FB80#32, 0x38A4B519#32]

/-- The words of the polynomial of the middle arguments. -/
def middleWords : List (BitVec 32) :=
  [0x3F1056E6#32, 0xBE8C5880#32, 0x3EAE5471#32, 0xBEFD28C0#32, 0x3F1EF9E3#32, 0xBF151CF8#32, 0x3EBCCBD0#32, 0xBE0E0868#32,
    0x3CBE9CF4#32]

/-- The words of the polynomial of the large arguments. -/
def tailWords : List (BitVec 32) :=
  [0x3F106EB9#32, 0xBE906C5D#32, 0x3ED7FC3E#32, 0xBF81F436#32, 0x403AF1FA#32, 0xC0EFDB4A#32, 0x414FA29C#32, 0xC127A483#32]

/-- The polynomial for arguments below 1, in the argument's square. -/
def near : List ℚ := nearWords.map value
/-- The polynomial between 1 and 2, in the reciprocal of the square. -/
def middle : List ℚ := middleWords.map value
/-- The polynomial beyond 2, in the reciprocal of the square. -/
def tail : List ℚ := tailWords.map value

/-- `2 / √π` to ten places. -/
def slopeAtZero : ℚ := 11283791671 / 10000000000

/-- The first terms of the series of `exp (-w)`. -/
def bell : List ℚ :=
  [1, -1, 1 / 2, -1 / 6, 1 / 24, -1 / 120, 1 / 720, -1 / 5040, 1 / 40320, -1 / 362880, 1 / 3628800]

/-- How far the small arguments' polynomial is from solving its differential equation. -/
def nearDefect : List ℚ :=
  add near (add (scale 2 (0 :: derivative near)) (scale (-slopeAtZero) bell))

/-- How far a polynomial of the other arguments is from solving its differential equation. -/
def farDefect (q : List ℚ) : List ℚ :=
  add [-slopeAtZero] (add (scale 2 q) (add (0 :: q) (scale 2 (0 :: 0 :: derivative q))))

/-- The defect below 1 is at most 10⁻⁶. -/
theorem near_bound (w : ℝ) (h0 : 0 ≤ w) (h1 : w ≤ 1) : |eval nearDefect w| ≤ 1 / 1000000 := by
  have h := abs_eval_le_of_within (1 / 1000000) (1 / 8) nearDefect 4 0 (by decide +kernel) w (by simpa using h0)
    (by push_cast; linarith) (by norm_num)
  simpa using h

/-- The defect between 1 and 2 is at most 7 / 10⁶. -/
theorem middle_bound (y : ℝ) (h0 : 1 / 4 ≤ y) (h1 : y ≤ 1) : |eval (farDefect middle) y| ≤ 7 / 1000000 := by
  have h := abs_eval_le_of_within (7 / 1000000) (1 / 32) (farDefect middle) 12 (1 / 4) (by decide +kernel) y
    (by push_cast; linarith) (by push_cast; linarith) (by norm_num)
  simpa using h

/-- The defect beyond 2 is at most 9 / 10⁷. -/
theorem tail_bound (y : ℝ) (h0 : 0 ≤ y) (h1 : y ≤ 1 / 4) : |eval (farDefect tail) y| ≤ 9 / 10000000 := by
  have h := abs_eval_le_of_within (9 / 10000000) (1 / 128) (farDefect tail) 16 0 (by decide +kernel) y
    (by simpa using h0) (by push_cast; linarith) (by norm_num)
  simpa using h

/-- The last polynomial is at most 1. -/
theorem tail_size (y : ℝ) (h0 : 0 ≤ y) (h1 : y ≤ 1 / 4) : |eval tail y| ≤ 1 := by
  have h := abs_eval_le_of_within 1 (1 / 8) tail 1 0 (by decide +kernel) y (by simpa using h0) (by push_cast; linarith)
    (by norm_num)
  simpa using h

/-- The polynomials of the middle and of the large arguments nearly meet at `y = 1 / 4`. -/
theorem join_bound : |eval middle (1 / 4) - eval tail (1 / 4)| ≤ 1 / 10000000 := by
  have h := abs_eval_le_of_within (1 / 10000000) (1 / 2 ^ 40) (add middle (scale (-1) tail)) 1 (1 / 4) (by decide +kernel)
    (1 / 4) (by norm_num) (by norm_num) (by norm_num)
  rw [eval_add, eval_scale] at h
  convert h using 2 <;> push_cast <;> ring

end Cert.Coefficients
-- ==== Proof.RealErfc.lean ====
/- The single precision expansion of the complementary error function on the reals, `single`, against the function
   itself, `erfc`: `single_near` states that their difference times the argument is at most 25 / 10⁷ everywhere. Each
   piece of the expansion nearly solves the differential equation the function solves, and the defect is carried from
   zero (small arguments) or from infinity (the others) to the argument. -/
module

public import proofs.«01_k».proof.Proof.Gauss
public import proofs.«01_k».proof.Proof.Coefficients
public import Mathlib.Analysis.Calculus.Deriv.MeanValue

@[expose] public section

noncomputable section

namespace Cert.RealErfc

open Cert.Gauss Cert.Poly Cert.Coefficients

/-! ## The constant `2 / √π` -/

/-- The first terms of the arc tangent's series. -/
def arctanTerms : List ℚ :=
  [0, 1, 0, -1 / 3, 0, 1 / 5, 0, -1 / 7, 0, 1 / 9, 0, -1 / 11, 0, 1 / 13, 0, -1 / 15]

/-- The arc tangent near zero by its series. -/
theorem arctan_near (b : ℝ) (h0 : 0 ≤ b) : |Real.arctan b - eval arctanTerms b| ≤ b ^ 17 := by
  have hd : ∀ x : ℝ, HasDerivAt (fun y => Real.arctan y - eval arctanTerms y) (x ^ 16 / (1 + x ^ 2)) x := by
    intro x
    refine ((hasDerivAt_arctan x).sub (hasDerivAt_eval arctanTerms x)).congr_deriv ?_
    simp only [arctanTerms, Poly.slope, eval]
    push_cast
    field_simp
    ring
  have h := (convex_Icc (0 : ℝ) b).norm_image_sub_le_of_norm_hasDerivWithin_le (C := b ^ 16)
    (fun x _ => (hd x).hasDerivWithinAt) (fun x hx => ?_) ⟨le_refl 0, h0⟩ ⟨h0, le_refl b⟩
  · have e : eval arctanTerms 0 = 0 := by simp [arctanTerms, eval]
    rw [Real.arctan_zero, e, sub_zero, sub_zero, sub_zero, Real.norm_eq_abs, Real.norm_eq_abs, abs_of_nonneg h0] at h
    calc _ ≤ _ := h
      _ = _ := by ring
  · rw [Real.norm_eq_abs, abs_of_nonneg (by positivity)]
    refine (div_le_self (by positivity) (by nlinarith [sq_nonneg x])).trans ?_
    exact pow_le_pow_left₀ hx.1 hx.2 16

/-- π to ten decimals. -/
theorem pi_bounds : |Real.pi - 314159265359 / 10 ^ 11| ≤ 1 / 10 ^ 10 := by
  have h1 := arctan_near (5⁻¹) (by norm_num)
  have h2 := arctan_near (239⁻¹) (by norm_num)
  have h := Real.four_mul_arctan_inv_5_sub_arctan_inv_239
  simp only [arctanTerms, eval] at h1 h2
  rw [abs_le] at h1 h2 ⊢
  norm_num at h1 h2
  constructor <;> linarith [h1.1, h1.2, h2.1, h2.2]

/-- `2 / √π`. -/
def constant : ℝ := 2 / Real.sqrt Real.pi

/-- The constant is positive. -/
theorem constant_pos : 0 < constant := div_pos two_pos (Real.sqrt_pos.mpr Real.pi_pos)

/-- Its square times π is 4. -/
theorem constant_sq : constant ^ 2 * Real.pi = 4 := by
  have h := Real.sq_sqrt Real.pi_pos.le
  have h0 := (Real.sqrt_pos.mpr Real.pi_pos).ne'
  rw [constant, div_pow, h]
  field_simp [Real.pi_pos.ne']
  norm_num

/-- It is the first coefficient to within 10⁻⁹. -/
theorem constant_near : |constant - slopeAtZero| ≤ 1 / 10 ^ 9 := by
  have hp := abs_le.mp pi_bounds
  have hc := constant_pos
  have hs := constant_sq
  rw [slopeAtZero, abs_le]
  push_cast
  constructor
  · by_contra h
    have h1 : constant < 11283791671 / 10000000000 - 1 / 10 ^ 9 := by linarith
    have h2 := mul_self_lt_mul_self hc.le h1
    nlinarith [Real.pi_pos]
  · by_contra h
    have h1 : 11283791671 / 10000000000 + 1 / 10 ^ 9 < constant := by linarith
    have h2 := mul_self_lt_mul_self (by norm_num) h1
    nlinarith [Real.pi_pos]

/-! ## The function -/

/-- The complementary error function. -/
def erfc (r : ℝ) : ℝ := 1 - constant * area r

/-- The function at zero. -/
theorem erfc_zero : erfc 0 = 1 := by rw [erfc, area_zero]; ring

/-- The function at the opposite argument. -/
theorem erfc_neg (r : ℝ) : erfc (-r) = 2 - erfc r := by rw [erfc, erfc, area_neg]; ring

/-- The function's derivative. -/
theorem hasDerivAt_erfc (a : ℝ) : HasDerivAt erfc (-(constant * Real.exp (-(a ^ 2)))) a :=
  ((hasDerivAt_area a).const_mul constant).const_sub 1

/-- The area to a positive end is not negative. -/
theorem area_nonneg (a : ℝ) (h : 0 ≤ a) : 0 ≤ area a :=
  intervalIntegral.integral_nonneg h fun t _ => Real.exp_nonneg _

/-- The function's product with `1 +` the error function is what is missing from `π / 4`. -/
theorem erfc_mul (a : ℝ) : erfc a * (1 + constant * area a) = constant ^ 2 * rest a := by
  have h := area_sq_add_rest a
  have hs := constant_sq
  rw [erfc]
  linear_combination (-constant ^ 2) * h - (1 / 4) * hs

/-- The function is not negative at positive arguments. -/
theorem erfc_nonneg (a : ℝ) (h : 0 ≤ a) : 0 ≤ erfc a := by
  have h1 : 0 < 1 + constant * area a := by have := mul_nonneg constant_pos.le (area_nonneg a h); linarith
  have h2 : 0 ≤ erfc a * (1 + constant * area a) := by
    rw [erfc_mul]; exact mul_nonneg (sq_nonneg _) (rest_nonneg a)
  exact nonneg_of_mul_nonneg_left h2 h1

/-- The constant is at most 2. -/
theorem constant_le_two : constant ≤ 2 := by
  have h := (abs_le.mp constant_near).2
  rw [slopeAtZero] at h; push_cast at h; linarith

/-- The function is at most 4 times the bell curve at positive arguments. -/
theorem erfc_le (a : ℝ) (h : 0 ≤ a) : erfc a ≤ 4 * Real.exp (-(a ^ 2)) := by
  have h1 : 0 ≤ constant * area a := mul_nonneg constant_pos.le (area_nonneg a h)
  have h2 := erfc_nonneg a h
  have h3 := erfc_mul a
  have h4 : constant ^ 2 ≤ 4 := by nlinarith [constant_le_two, constant_pos]
  have h5 := rest_le a
  have h6 := rest_nonneg a
  nlinarith [mul_nonneg h2 h1, mul_nonneg (sub_nonneg.mpr h4) h6]

/-! ## The comparison function -/

/-- The comparison function, whose derivative is at most `-2 exp (-a²)`. -/
def weight (a : ℝ) : ℝ := Real.exp (-(a ^ 2)) / a

/-- The weight is positive. -/
theorem weight_pos (a : ℝ) (h : 0 < a) : 0 < weight a := div_pos (Real.exp_pos _) h

/-- The argument times the weight is the bell curve. -/
theorem mul_weight (a : ℝ) (h : 0 < a) : a * weight a = Real.exp (-(a ^ 2)) := by
  rw [weight]; field_simp

/-- The bell curve's derivative. -/
theorem hasDerivAt_bell (a : ℝ) : HasDerivAt (fun x : ℝ => Real.exp (-(x ^ 2))) (Real.exp (-(a ^ 2)) * (-(2 * a))) a := by
  refine ((hasDerivAt_pow 2 a).neg.exp).congr_deriv ?_
  norm_num

/-- The weight's derivative. -/
theorem hasDerivAt_weight (a : ℝ) (h : 0 < a) :
    HasDerivAt weight (-(Real.exp (-(a ^ 2)) * (2 + (a ^ 2)⁻¹))) a := by
  refine ((hasDerivAt_bell a).div (hasDerivAt_id a) h.ne').congr_deriv ?_
  simp only [id]
  field_simp
  ring

/-- The derivative of the reciprocal of the square. -/
theorem hasDerivAt_recip (a : ℝ) (h : 0 < a) : HasDerivAt (fun x : ℝ => (x ^ 2)⁻¹) (-(2 / a ^ 3)) a := by
  refine ((hasDerivAt_pow 2 a).fun_inv (by positivity)).congr_deriv ?_
  field_simp
  norm_num
  ring

/-- The function minus the expansion by one polynomial. -/
def gap (q : List ℚ) (a : ℝ) : ℝ := erfc a - weight a * eval q (a ^ 2)⁻¹

/-- The gap's derivative is the bell curve times the polynomial's defect. -/
theorem hasDerivAt_gap (q : List ℚ) (a : ℝ) (h : 0 < a) : HasDerivAt (gap q)
    (Real.exp (-(a ^ 2)) * (eval (farDefect q) (a ^ 2)⁻¹ - (constant - slopeAtZero))) a := by
  have hq := (hasDerivAt_eval q (a ^ 2)⁻¹).comp a (hasDerivAt_recip a h)
  refine ((hasDerivAt_erfc a).sub ((hasDerivAt_weight a h).mul hq)).congr_deriv ?_
  simp only [Function.comp, farDefect, eval_add, eval_scale, eval, eval_derivative, weight]
  push_cast
  field_simp
  ring

/-- Where the defect is at most `d` from `a` to `b`, the gap changes by at most `d / 2` times the comparison function. -/
theorem gap_le (q : List ℚ) (d a b : ℝ) (ha : 0 < a) (hab : a ≤ b)
    (hd : ∀ x, a ≤ x → x ≤ b → |eval (farDefect q) (x ^ 2)⁻¹ - (constant - slopeAtZero)| ≤ d) :
    |gap q a| ≤ |gap q b| + d / 2 * weight a := by
  have hd0 : 0 ≤ d := (abs_nonneg _).trans (hd a le_rfl hab)
  have key : ∀ s : ℝ, |s| = 1 → s * gap q b + d / 2 * weight b ≤ s * gap q a + d / 2 * weight a := by
    intro s hs
    have hder : ∀ x, 0 < x → HasDerivAt (fun x => s * gap q x + d / 2 * weight x)
        (s * (Real.exp (-(x ^ 2)) * (eval (farDefect q) (x ^ 2)⁻¹ - (constant - slopeAtZero)))
          + d / 2 * (-(Real.exp (-(x ^ 2)) * (2 + (x ^ 2)⁻¹)))) x := fun x hx =>
      ((hasDerivAt_gap q x hx).const_mul s).add ((hasDerivAt_weight x hx).const_mul (d / 2))
    have hanti : AntitoneOn (fun x => s * gap q x + d / 2 * weight x) (Set.Icc a b) := by
      refine antitoneOn_of_hasDerivWithinAt_nonpos (convex_Icc a b)
        (fun x hx => (hder x (ha.trans_le hx.1)).continuousAt.continuousWithinAt)
        (fun x hx => (hder x (ha.trans_le (interior_subset hx).1)).hasDerivWithinAt) fun x hx => ?_
      have hx' := interior_subset hx
      have hx0 : 0 < x := ha.trans_le hx'.1
      have h1 := hd x hx'.1 hx'.2
      have h2 : s * (eval (farDefect q) (x ^ 2)⁻¹ - (constant - slopeAtZero)) ≤ d := by
        refine (le_abs_self _).trans ?_
        rwa [abs_mul, hs, one_mul]
      have h3 := Real.exp_pos (-(x ^ 2))
      have h4 : 0 ≤ d * (x ^ 2)⁻¹ := by positivity
      nlinarith [mul_le_mul_of_nonneg_left h2 h3.le, mul_nonneg h3.le h4]
    exact hanti ⟨le_rfl, hab⟩ ⟨hab, le_rfl⟩ hab
  have k1 := key 1 (by norm_num)
  have k2 := key (-1) (by norm_num)
  have hw : 0 ≤ d / 2 * weight b := mul_nonneg (by linarith) (weight_pos b (ha.trans_le hab)).le
  have e1 := neg_abs_le (gap q b)
  have e2 := le_abs_self (gap q b)
  rw [abs_le]
  constructor <;> linarith

/-- The exponential's decay in a usable form. -/
theorem bell_le_inv (b : ℝ) (h : 0 < b) : Real.exp (-(b ^ 2)) ≤ 1 / b := by
  rw [Real.exp_neg, ← one_div]
  refine one_div_le_one_div_of_le h ?_
  have := Real.add_one_le_exp (b ^ 2)
  nlinarith [sq_nonneg (b - 1)]

/-- The range of the reciprocal of the square. -/
theorem recip_range (x p : ℝ) (hp : 0 < p) (h : p ≤ x) : 0 ≤ (x ^ 2)⁻¹ ∧ (x ^ 2)⁻¹ ≤ (p ^ 2)⁻¹ := by
  have hx : 0 < x := hp.trans_le h
  exact ⟨by positivity, inv_anti₀ (by positivity) (pow_le_pow_left₀ hp.le h 2)⟩

/-- From `2` on the large arguments' expansion is within half a millionth of the comparison function. -/
theorem gap_tail (a : ℝ) (h : 2 ≤ a) : |gap tail a| ≤ 1 / 2000000 * weight a := by
  have ha : 0 < a := by linarith
  refine le_of_forall_pos_le_add fun ε hε => ?_
  set b := max a (5 / ε) with hb
  have hab : a ≤ b := le_max_left _ _
  have hb2 : 2 ≤ b := h.trans hab
  have hb0 : 0 < b := by linarith
  have h1 := gap_le tail (1 / 1000000) a b ha hab fun x hx _ => ?_
  · have hr := recip_range b 2 two_pos hb2
    have hs := tail_size (b ^ 2)⁻¹ hr.1 (by norm_num at hr ⊢; exact hr.2)
    have he := erfc_le b hb0.le
    have he0 := erfc_nonneg b hb0.le
    have hw : weight b ≤ Real.exp (-(b ^ 2)) := div_le_self (Real.exp_nonneg _) (by linarith)
    have hw0 := (weight_pos b hb0).le
    have hg : |gap tail b| ≤ 5 * Real.exp (-(b ^ 2)) := by
      rw [gap]
      refine (abs_sub _ _).trans ?_
      rw [abs_of_nonneg he0, abs_mul, abs_of_nonneg hw0]
      nlinarith
    have hq := bell_le_inv b hb0
    have hl : 5 * (1 / b) ≤ ε := by
      have : 5 / ε ≤ b := le_max_right _ _
      rw [div_le_iff₀ hε] at this
      rw [mul_one_div, div_le_iff₀ hb0]; linarith
    linarith
  · have hr := recip_range x 2 two_pos (h.trans hx)
    have ht := tail_bound (x ^ 2)⁻¹ hr.1 (by norm_num at hr ⊢; exact hr.2)
    have hc := constant_near
    refine (abs_sub _ _).trans ?_
    linarith

/-- Between `1` and `2` the middle arguments' expansion is within five millionths of the comparison function. -/
theorem gap_middle (a : ℝ) (h : 1 ≤ a) (h2 : a ≤ 2) : |gap middle a| ≤ 46 / 10000000 * weight a := by
  have ha : 0 < a := by linarith
  have h1 := gap_le middle (8 / 1000000) a 2 ha h2 fun x hx hx2 => ?_
  · have ht := gap_tail 2 le_rfl
    have hj := join_bound
    have hw2 := (weight_pos 2 two_pos).le
    have hg : |gap middle 2| ≤ 6 / 10000000 * weight 2 := by
      have e : gap middle 2 = gap tail 2 - weight 2 * (eval middle (1 / 4) - eval tail (1 / 4)) := by
        rw [gap, gap]; norm_num; ring
      rw [e]
      refine (abs_sub _ _).trans ?_
      rw [abs_mul, abs_of_nonneg hw2]
      nlinarith
    have hw : weight 2 ≤ weight a := by
      rw [weight, weight]
      exact div_le_div₀ (Real.exp_nonneg _) (Real.exp_le_exp.mpr (by nlinarith)) ha h2
    linarith
  · have hr := recip_range x 1 one_pos (h.trans hx)
    have hx0 : 0 < x := by linarith
    have hl : 1 / 4 ≤ (x ^ 2)⁻¹ := by
      rw [one_div]
      exact inv_anti₀ (by positivity) (by nlinarith)
    have ht := middle_bound (x ^ 2)⁻¹ hl (by simpa using hr.2)
    have hc := constant_near
    refine (abs_sub _ _).trans ?_
    linarith

/-! ## Small arguments -/

/-- The exponential by its series, for exponents between 0 and 1. -/
theorem bell_near (w : ℝ) (h0 : 0 ≤ w) (h1 : w ≤ 1) : |Real.exp (-w) - eval bell w| ≤ 1 / 10000000 := by
  have h := Real.exp_bound (x := -w) (by rw [abs_neg, abs_of_nonneg h0]; exact h1) (n := 11) (by norm_num)
  have e : ∑ m ∈ Finset.range 11, (-w) ^ m / (m.factorial : ℝ) = eval bell w := by
    simp only [Finset.sum_range_succ, Finset.sum_range_zero, bell, eval, Nat.factorial]
    push_cast
    ring
  rw [e, abs_neg, abs_of_nonneg h0] at h
  refine h.trans ?_
  have hp : w ^ 11 ≤ 1 := pow_le_one₀ h0 h1
  have : ((Nat.succ 11 : ℕ) : ℝ) / ((Nat.factorial 11 : ℕ) * (11 : ℕ)) ≤ 1 / 10000000 := by norm_num [Nat.factorial]
  calc _ ≤ 1 * (((Nat.succ 11 : ℕ) : ℝ) / ((Nat.factorial 11 : ℕ) * (11 : ℕ))) := by gcongr
    _ ≤ _ := by linarith

/-- On `[-1, 1]` the small arguments' expansion is within twelve ten-millionths. -/
theorem near_near (r : ℝ) (h : |r| ≤ 1) : |1 - r * eval near (r ^ 2) - erfc r| ≤ 12 / 10000000 := by
  have hd : ∀ x : ℝ, HasDerivAt (fun x => 1 - x * eval near (x ^ 2) - erfc x)
      (constant * Real.exp (-(x ^ 2)) - (eval near (x ^ 2) + 2 * (x ^ 2) * Poly.slope near (x ^ 2))) x := by
    intro x
    have hp := (hasDerivAt_eval near (x ^ 2)).comp x (hasDerivAt_pow 2 x)
    refine ((((hasDerivAt_id x).mul hp).const_sub 1).sub (hasDerivAt_erfc x)).congr_deriv ?_
    simp only [Function.comp, id]
    norm_num
    ring
  have hb : ∀ x ∈ Set.Icc (-1 : ℝ) 1,
      ‖constant * Real.exp (-(x ^ 2)) - (eval near (x ^ 2) + 2 * (x ^ 2) * Poly.slope near (x ^ 2))‖ ≤ 12 / 10000000 := by
    intro x hx
    have h0 : 0 ≤ x ^ 2 := sq_nonneg x
    have h1 : x ^ 2 ≤ 1 := by nlinarith [hx.1, hx.2]
    have hn := near_bound (x ^ 2) h0 h1
    have hbell := bell_near (x ^ 2) h0 h1
    have hc := constant_near
    have he : Real.exp (-(x ^ 2)) ≤ 1 := Real.exp_le_one_iff.mpr (by linarith)
    have he0 := Real.exp_nonneg (-(x ^ 2))
    have hK : (slopeAtZero : ℝ) = 11283791671 / 10000000000 := by rw [slopeAtZero]; push_cast; rfl
    have e : constant * Real.exp (-(x ^ 2)) - (eval near (x ^ 2) + 2 * (x ^ 2) * Poly.slope near (x ^ 2))
        = (constant - slopeAtZero) * Real.exp (-(x ^ 2)) + slopeAtZero * (Real.exp (-(x ^ 2)) - eval bell (x ^ 2))
          - eval nearDefect (x ^ 2) := by
      simp only [nearDefect, eval_add, eval_scale, eval, eval_derivative]
      push_cast
      ring
    rw [Real.norm_eq_abs, e]
    refine (abs_sub _ _).trans ?_
    have t1 : |(constant - slopeAtZero) * Real.exp (-(x ^ 2))| ≤ 1 / 10 ^ 9 := by
      rw [abs_mul, abs_of_nonneg he0]; nlinarith [abs_nonneg (constant - slopeAtZero)]
    have t2 : |(slopeAtZero : ℝ) * (Real.exp (-(x ^ 2)) - eval bell (x ^ 2))| ≤ 15 / 100000000 := by
      rw [abs_mul, hK, abs_of_pos (by norm_num)]; nlinarith [abs_nonneg (Real.exp (-(x ^ 2)) - eval bell (x ^ 2))]
    have t3 := abs_add_le ((constant - slopeAtZero) * Real.exp (-(x ^ 2)))
      (slopeAtZero * (Real.exp (-(x ^ 2)) - eval bell (x ^ 2)))
    linarith
  have hr := abs_le.mp h
  have hm := (convex_Icc (-1 : ℝ) 1).norm_image_sub_le_of_norm_hasDerivWithin_le (x := 0) (y := r)
    (fun x _ => (hd x).hasDerivWithinAt) hb ⟨by norm_num, by norm_num⟩ ⟨hr.1, hr.2⟩
  simp only [zero_mul, sub_zero, erfc_zero, sub_self, Real.norm_eq_abs] at hm
  refine hm.trans ?_
  linarith

/-! ## The expansion -/

/-- The expansion away from zero, for `|r|`. -/
def singleFar (r : ℝ) : ℝ :=
  if 11629080 / 131072 < r ^ 2 then 0
  else Real.exp (-(r ^ 2)) / |r| * (if |r| < 2 then eval middle (r ^ 2)⁻¹ else eval tail (r ^ 2)⁻¹)

/-- The expansion. -/
def single (r : ℝ) : ℝ :=
  if |r| < 1 then 1 - r * eval near (r ^ 2) else if r < 0 then 2 - singleFar r else singleFar r

/-- The far expansion is even. -/
theorem singleFar_neg (r : ℝ) : singleFar (-r) = singleFar r := by
  rw [singleFar, singleFar, neg_sq, abs_neg]

/-- The bell curve from 1 on is at most a half. -/
theorem bell_one (a : ℝ) (h : 1 ≤ a) : Real.exp (-(a ^ 2)) ≤ 1 / 2 := by
  rw [Real.exp_neg, ← one_div]
  refine one_div_le_one_div_of_le two_pos ?_
  have := Real.add_one_le_exp (a ^ 2)
  nlinarith

/-- The bell curve past the expansion's last argument is at most 10⁻⁷. -/
theorem bell_far (a : ℝ) (h : 88 < a ^ 2) : Real.exp (-(a ^ 2)) ≤ 1 / 10000000 := by
  rw [Real.exp_neg, ← one_div]
  refine one_div_le_one_div_of_le (by norm_num) ?_
  have h1 : (12 : ℝ) ≤ Real.exp 11 := by have := Real.add_one_le_exp (11 : ℝ); linarith
  have h2 : (12 : ℝ) ^ 8 ≤ Real.exp 11 ^ 8 := pow_le_pow_left₀ (by norm_num) h1 8
  rw [← Real.exp_nat_mul] at h2
  have h3 : Real.exp (((8 : ℕ) : ℝ) * 11) ≤ Real.exp (a ^ 2) := Real.exp_le_exp.mpr (by norm_num; linarith)
  refine le_trans (le_trans (by norm_num) h2) h3

/-- Away from zero the expansion is within 25 / 10⁷ of the function, even times the argument. -/
theorem singleFar_near (a : ℝ) (h : 1 ≤ a) : a * |singleFar a - erfc a| ≤ 25 / 10000000 := by
  have ha : 0 < a := by linarith
  have hm := mul_weight a ha
  rw [singleFar, abs_of_pos ha]
  split
  · rename_i hb
    have h88 : 88 < a ^ 2 := lt_trans (by norm_num) hb
    rw [zero_sub, abs_neg, abs_of_nonneg (erfc_nonneg a ha.le)]
    have e1 := bell_far a h88
    have hg : erfc a = gap [] a := by rw [gap, eval]; ring
    have h9 : 2 ≤ a := by nlinarith
    have g1 := gap_tail a h9
    have hr := recip_range a 2 two_pos h9
    have hs := tail_size (a ^ 2)⁻¹ hr.1 (by norm_num at hr ⊢; exact hr.2)
    have hw := (weight_pos a ha).le
    have g2 : erfc a ≤ 2 * weight a := by
      have hs' := (abs_le.mp hs).2
      have g1' := (abs_le.mp g1).2
      rw [gap] at g1'
      nlinarith
    nlinarith
  · split
    · rename_i h2
      have g := gap_middle a h h2.le
      rw [gap, weight, abs_sub_comm] at g
      have e := bell_one a h
      rw [weight] at hm
      nlinarith [mul_le_mul_of_nonneg_left g ha.le]
    · rename_i h2
      push Not at h2
      have g := gap_tail a h2
      rw [gap, weight, abs_sub_comm] at g
      have e := bell_one a h
      rw [weight] at hm
      nlinarith [mul_le_mul_of_nonneg_left g ha.le]

/-- The expansion is within 25 / 10⁷ of the function, even times the argument. -/
theorem single_near (r : ℝ) : |r| * |single r - erfc r| ≤ 25 / 10000000 := by
  rw [single]
  split
  · rename_i h
    have hn := near_near r h.le
    nlinarith [abs_nonneg r, abs_nonneg (1 - r * eval near (r ^ 2) - erfc r)]
  · rename_i h
    push Not at h
    split
    · rename_i h0
      have hf := singleFar_near (-r) (by rw [abs_of_neg h0] at h; exact h)
      rw [singleFar_neg, erfc_neg] at hf
      rw [abs_of_neg h0, ← abs_neg]
      convert hf using 3
      ring
    · rename_i h0
      push Not at h0
      rw [abs_of_nonneg h0] at h ⊢
      exact singleFar_near r h

end Cert.RealErfc

end
-- ==== Proof.ExactGelu.lean ====
/- The activation on the extended reals against the exact one: `gelu_near` states that the two are equal, at the infinite
   preactivations, or two reals at most 2⁻¹⁹ apart. -/
module

public import proofs.«01_k».proof.Proof.Activation
public import proofs.«01_k».proof.Proof.RealErfc

@[expose] public section

noncomputable section

namespace Cert.ExactGelu

open Idealize.ShloMosaic Cert.Activation Cert.Poly Cert.Coefficients

/-- The activation by the exact complementary error function. -/
def exactGelu (h : EReal) : EReal :=
  word 0x3F000000#32 * h * Ideal.erfc (Ideal.div (-h) (Ideal.sqrt (word 0x40000000#32)))

/-! ## The polynomials at a real -/

/-- A word whose exponent field is between 1 and 150 denotes its rational number. -/
theorem word_eq (b : BitVec 32) (h1 : 1 ≤ b.toNat / 2 ^ 23 % 2 ^ 8) (h2 : b.toNat / 2 ^ 23 % 2 ^ 8 ≤ 150) :
    word b = ((value b : ℝ) : EReal) := by
  have hx : (b.extractLsb' 23 8).toNat = b.toNat / 2 ^ 23 % 2 ^ 8 := by
    rw [BitVec.extractLsb'_toNat, Nat.shiftRight_eq_div_pow]
  have hf : (b.extractLsb' 0 23).toNat = b.toNat % 2 ^ 23 := by
    rw [BitVec.extractLsb'_toNat, Nat.shiftRight_zero]
  have hs : (b.extractLsb' (8 + 23) 1 == 1#1) = decide (b.toNat / 2 ^ 31 = 1) := by
    rw [Bool.eq_iff_iff, beq_iff_eq, decide_eq_true_eq, ← BitVec.toNat_inj, BitVec.extractLsb'_toNat, Nat.shiftRight_eq_div_pow]
    have := b.isLt
    show b.toNat / 2 ^ 31 % 2 ^ 1 = 1 ↔ _
    omega
  have hn1 : ¬(b.toNat / 2 ^ 23 % 2 ^ 8 = 2 ^ 8 - 1) := by omega
  have hn2 : ¬(b.toNat / 2 ^ 23 % 2 ^ 8 = 0) := by omega
  show Ideal.ieee 8 23 b = _
  unfold Ideal.ieee
  simp only [hx, hf, hs]
  rw [if_neg hn1, if_neg hn2, value]
  congr 1
  generalize b.toNat / 2 ^ 23 % 2 ^ 8 = x at h1 h2
  have hz : (2 : ℝ) ^ ((x : ℤ) - (2 ^ (8 - 1) - 1 : ℤ) - (23 : ℕ)) = 1 / ((2 ^ (150 - x) : ℕ) : ℝ) := by
    rw [show (x : ℤ) - (2 ^ (8 - 1) - 1 : ℤ) - (23 : ℕ) = -((150 - x : ℕ) : ℤ) by omega, zpow_neg, zpow_natCast]
    push_cast
    rw [one_div]
  rw [hz]
  split
  · simp_all
    ring
  · simp_all
    ring

/-- A polynomial by words, the lowest power first, as the programs evaluate it. -/
def horner : List (BitVec 32) → EReal → EReal
  | [], _ => 0
  | [c], _ => word c
  | c :: d :: cs, x => horner (d :: cs) x * x + word c

/-- At a real it is the rational polynomial's value. -/
theorem horner_coe (cs : List (BitVec 32))
    (h : cs.all (fun c => 1 ≤ c.toNat / 2 ^ 23 % 2 ^ 8 && c.toNat / 2 ^ 23 % 2 ^ 8 ≤ 150) = true) (x : ℝ) :
    horner cs (x : EReal) = ((eval (cs.map value) x : ℝ) : EReal) := by
  induction cs with
  | nil => simp [horner, eval]
  | cons c cs ih =>
    rw [List.all_cons, Bool.and_eq_true, Bool.and_eq_true, decide_eq_true_eq, decide_eq_true_eq] at h
    obtain ⟨hc, ht⟩ := h
    cases cs with
    | nil => simp [horner, eval, word_eq c hc.1 hc.2]
    | cons d cs =>
      rw [horner, ih ht, word_eq c hc.1 hc.2, ← EReal.coe_mul, ← EReal.coe_add]
      congr 1
      simp only [List.map_cons, eval]
      ring

/-- The polynomial below 1, at a real. -/
theorem polyNear_coe (w : ℝ) : polyNear (w : EReal) = ((eval near w : ℝ) : EReal) := by
  rw [show polyNear (w : EReal) = horner nearWords w by simp only [polyNear, nearWords, horner], horner_coe nearWords (by decide), near]

/-- The polynomial between 1 and 2, at a real. -/
theorem polyMiddle_coe (y : ℝ) : polyMiddle (y : EReal) = ((eval middle y : ℝ) : EReal) := by
  rw [show polyMiddle (y : EReal) = horner middleWords y by simp only [polyMiddle, middleWords, horner], horner_coe middleWords (by decide), middle]

/-- The polynomial beyond 2, at a real. -/
theorem polyTail_coe (y : ℝ) : polyTail (y : EReal) = ((eval tail y : ℝ) : EReal) := by
  rw [show polyTail (y : EReal) = horner tailWords y by simp only [polyTail, tailWords, horner], horner_coe tailWords (by decide), tail]

/-! ## The expansion at a real -/

/-- The absolute value of a real. -/
theorem abs_coe (r : ℝ) : abs (r : EReal) = ((|r| : ℝ) : EReal) := by
  rw [abs_eq_max_neg]
  show max (r : EReal) (-(r : EReal)) = _
  rw [← EReal.coe_neg]
  exact (EReal.coe_strictMono.monotone.map_max).symm

/-- A selection by "less than" between reals. -/
theorem select_cmp_olt (x y : ℝ) (a b : EReal) :
    Scalar.select (Ideal.cmp .olt (x : EReal) (y : EReal)) a b = if x < y then a else b := by
  unfold Ideal.cmp Scalar.select
  by_cases h : x < y <;> simp [h]

/-- A selection by "greater than" between reals. -/
theorem select_cmp_ogt (x y : ℝ) (a b : EReal) :
    Scalar.select (Ideal.cmp .ogt (x : EReal) (y : EReal)) a b = if y < x then a else b := by
  unfold Ideal.cmp Scalar.select
  by_cases h : y < x <;> simp [h]

/-- The word of `1.0`. -/
theorem word_one : word 0x3F800000#32 = ((1 : ℝ) : EReal) := by rw [word, Consts.ofBits_one, EReal.coe_one]
/-- The word of `0.0`. -/
theorem word_zero : word 0x00000000#32 = ((0 : ℝ) : EReal) := by rw [word, Consts.ofBits_zero, EReal.coe_zero]
/-- The word of `2.0`. -/
theorem word_two : word 0x40000000#32 = ((2 : ℝ) : EReal) := Consts.ofBits_two
/-- The word of `0.5`. -/
theorem word_half : word 0x3F000000#32 = ((1 / 2 : ℝ) : EReal) := by
  rw [word_eq _ (by decide) (by decide), value]; norm_num

/-- The expansion from 1 on, at a real other than zero. -/
theorem far_coe (r : ℝ) (h : r ≠ 0) : far (r : EReal) = ((RealErfc.singleFar r : ℝ) : EReal) := by
  have hr : |r| ≠ 0 := abs_ne_zero.mpr h
  have hq : r * r ≠ 0 := mul_ne_zero h h
  unfold far
  rw [show word 0x42B17218#32 = ((11629080 / 131072 : ℝ) : EReal) from Consts.ofBits_bound, word_zero, word_two, word_one,
    ← EReal.coe_mul, select_cmp_ogt, abs_coe, select_cmp_olt, ← EReal.coe_neg, Ideal.exp_coe, Ideal.div_coe hr,
    Ideal.div_coe hq, ← EReal.coe_mul, ← EReal.coe_mul, polyMiddle_coe, polyTail_coe, RealErfc.singleFar]
  have e : 1 * (1 / (r * r)) = (r ^ 2)⁻¹ := by rw [one_mul, one_div, sq]
  rw [e, ← sq]
  split
  · rfl
  · rw [div_eq_mul_one_div (Real.exp _), EReal.coe_mul]
    congr 1
    split <;> rfl

/-- The whole expansion, at a real. -/
theorem erfc_coe (r : ℝ) : erfc (r : EReal) = ((RealErfc.single r : ℝ) : EReal) := by
  unfold erfc
  rw [word_one, word_zero, word_two, abs_coe, select_cmp_olt, select_cmp_olt, ← EReal.coe_mul, polyNear_coe, ← EReal.coe_mul,
    ← EReal.coe_sub, ← sq, RealErfc.single]
  split
  · rfl
  · rename_i h
    have h0 : r ≠ 0 := by rintro rfl; simp at h
    rw [far_coe r h0, ← EReal.coe_sub]
    split <;> rfl

/-- The exact function, at a real. -/
theorem ideal_erfc_coe (r : ℝ) : Ideal.erfc (r : EReal) = ((RealErfc.erfc r : ℝ) : EReal) := by
  rw [Ideal.erfc, Ideal.erf_coe, ← EReal.coe_one, ← EReal.coe_sub]
  rfl

/-! ## The activations -/

/-- The argument of the error function, at a real preactivation. -/
theorem arg_coe (r : ℝ) : Ideal.div (-(r : EReal)) (Ideal.sqrt (word 0x40000000#32)) = ((-(r / Real.sqrt 2) : ℝ) : EReal) := by
  have hs : Real.sqrt 2 ≠ 0 := by positivity
  rw [word_two, Ideal.sqrt_coe, if_neg (by norm_num), Ideal.div_coe hs, ← EReal.coe_neg, ← EReal.coe_mul]
  congr 1
  ring

/-- At an infinite positive one it is -∞. -/
theorem arg_top : Ideal.div (-(⊤ : EReal)) (Ideal.sqrt (word 0x40000000#32)) = ⊥ := by
  have hs : Real.sqrt 2 ≠ 0 := by positivity
  rw [word_two, Ideal.sqrt_coe, if_neg (by norm_num), Ideal.div_coe hs, EReal.neg_top]
  exact EReal.bot_mul_coe_of_pos (by positivity)

/-- At an infinite negative one it is +∞. -/
theorem arg_bot : Ideal.div (-(⊥ : EReal)) (Ideal.sqrt (word 0x40000000#32)) = ⊤ := by
  have hs : Real.sqrt 2 ≠ 0 := by positivity
  rw [word_two, Ideal.sqrt_coe, if_neg (by norm_num), Ideal.div_coe hs, EReal.neg_bot]
  exact EReal.top_mul_coe_of_pos (by positivity)

/-- The expansion from 1 on vanishes at the infinities. -/
theorem far_infinite (a : EReal) (h : a * a = ⊤) : far a = 0 := by
  unfold far
  rw [h, show word 0x42B17218#32 = ((11629080 / 131072 : ℝ) : EReal) from Consts.ofBits_bound, word_zero]
  unfold Ideal.cmp Scalar.select
  simp

/-- Expansion and exact function agree at +∞, -/
theorem erfc_top : erfc ⊤ = Ideal.erfc ⊤ := by
  unfold erfc
  rw [far_infinite ⊤ EReal.top_mul_top, word_one, word_zero, word_two, Ideal.erfc_top]
  unfold Ideal.cmp Scalar.select
  simp

/-- and at -∞. -/
theorem erfc_bot : erfc ⊥ = Ideal.erfc ⊥ := by
  unfold erfc
  rw [far_infinite ⊥ EReal.bot_mul_bot, word_one, word_zero, word_two, Ideal.erfc_bot]
  unfold Ideal.cmp Scalar.select
  simp
  rfl

/-- The two activations are equal, or reals at most 2⁻¹⁹ apart. -/
theorem gelu_near (h : EReal) :
    gelu h = exactGelu h ∨ ∃ g g' : ℝ, gelu h = g ∧ exactGelu h = g' ∧ |g - g'| ≤ 1 / 2 ^ 19 := by
  induction h using EReal.rec with
  | bot => left; rw [gelu, exactGelu, arg_bot, erfc_top]
  | top => left; rw [gelu, exactGelu, arg_top, erfc_bot]
  | coe r =>
    right
    refine ⟨1 / 2 * r * RealErfc.single (-(r / Real.sqrt 2)), 1 / 2 * r * RealErfc.erfc (-(r / Real.sqrt 2)), ?_, ?_, ?_⟩
    · rw [gelu, arg_coe, erfc_coe, word_half, ← EReal.coe_mul, ← EReal.coe_mul]
    · rw [exactGelu, arg_coe, ideal_erfc_coe, word_half, ← EReal.coe_mul, ← EReal.coe_mul]
    · have hs : 0 < Real.sqrt 2 := by positivity
      have hb := RealErfc.single_near (-(r / Real.sqrt 2))
      have h2 : Real.sqrt 2 ≤ 143 / 100 := Real.sqrt_le_iff.mpr ⟨by norm_num, by norm_num⟩
      set a := -(r / Real.sqrt 2) with ha
      have hr : r = -(Real.sqrt 2 * a) := by rw [ha]; field_simp
      rw [← mul_sub, hr, show 1 / 2 * -(Real.sqrt 2 * a) * (RealErfc.single a - RealErfc.erfc a)
          = -(Real.sqrt 2 / 2) * (a * (RealErfc.single a - RealErfc.erfc a)) by ring, abs_mul, abs_mul a, abs_neg,
        abs_of_pos (by positivity : 0 < Real.sqrt 2 / 2)]
      have h0 : 0 ≤ |a| * |RealErfc.single a - RealErfc.erfc a| := by positivity
      nlinarith

end Cert.ExactGelu

end
-- ==== Proof.Ranking.lean ====
/- Sorting two families of extended reals that differ by at most `d`, greatest first: at each rank the elements the two
   sorts put there differ by at most `2 d`, both measured in the second family. -/
module

public import Idealize.ShloMosaic.Lib.SortFacts
public import Mathlib.Data.EReal.Operations
public import Mathlib.Data.Fintype.Card

@[expose] public section

noncomputable section

namespace Cert.Ranking

open Idealize.ShloMosaic

/-- One of two extended reals exceeds the other by at most `e`, whichever it is. -/
def Near (e a b : EReal) : Prop := a ≤ b + e ∧ b ≤ a + e

/-- Nearness is symmetric. -/
theorem Near.symm {e a b : EReal} (h : Near e a b) : Near e b a := ⟨h.2, h.1⟩

/-- The order in which a family is sorted greatest first. -/
abbrev order {n : Nat} (s : Fin n → EReal) : Fin n → Fin n :=
  sortedFrom fun k k' => decide (s k' < s k)

/-- A later rank holds no greater element. -/
theorem order_antitone {n : Nat} (s : Fin n → EReal) (i j : Fin n) (h : i ≤ j) : s (order s j) ≤ s (order s i) := by
  rcases h.eq_or_lt with rfl | h
  · exact le_rfl
  · have := sortedFrom_noInversion (fun k k' => decide (s k' < s k)) (fun k k' => decide (s k' < s k))
      (fun a b hab => by simp only [decide_eq_true_eq, decide_eq_false_iff_not, not_lt] at hab ⊢; exact hab.le)
      (fun _ _ hab => hab)
      (fun a b c hab hbc => by simp only [decide_eq_false_iff_not, not_lt] at hab hbc ⊢; exact hab.trans hbc) i j h
    simpa using this

/-- The element at a rank of one family exceeds the one at that rank of the other by at most `d`. -/
theorem rank_le {n : Nat} (s s' : Fin n → EReal) (d : EReal) (h : ∀ i, s' i ≤ s i + d) (t : Fin n) :
    s' (order s' t) ≤ s (order s t) + d := by
  by_contra hc
  push Not at hc
  have key : ∀ i : Fin n, i ≤ t → ∃ j : Fin n, j < t ∧ order s j = order s' i := by
    intro i hi
    obtain ⟨j, hj⟩ := sortedFrom_surjective (fun k k' => decide (s k' < s k)) (order s' i)
    refine ⟨j, ?_, hj⟩
    by_contra hjt
    push Not at hjt
    have h1 := order_antitone s t j hjt
    have h2 := order_antitone s' i t hi
    have h3 := h (order s' i)
    rw [← hj] at h3
    have h4 : s (order s j) + d ≤ s (order s t) + d := add_le_add h1 le_rfl
    rw [← hj] at h2
    exact absurd (h2.trans (h3.trans h4)) (not_le.mpr hc)
  choose f hf1 hf2 using key
  let g : Fin (t.val + 1) → Fin t.val := fun i =>
    ⟨f ⟨i.val, by omega⟩ (Fin.le_def.mpr (by show i.val ≤ t.val; omega)), hf1 _ _⟩
  have hg : Function.Injective g := by
    intro a b hab
    have e1 : f ⟨a.val, by omega⟩ (Fin.le_def.mpr (by show a.val ≤ t.val; omega))
        = f ⟨b.val, by omega⟩ (Fin.le_def.mpr (by show b.val ≤ t.val; omega)) := Fin.ext (Fin.mk.inj hab)
    have e2 := congrArg (order s) e1
    rw [hf2, hf2] at e2
    have e3 := sortedFrom_injective _ e2
    exact Fin.ext (Fin.mk.inj e3)
  have := Fintype.card_le_of_injective g hg
  simp at this

/-- At each rank the two sorts' elements, both measured in the second family, are within `2 d`. -/
theorem rank_near {n : Nat} (s s' : Fin n → EReal) (d : EReal) (h : ∀ i, Near d (s i) (s' i)) (t : Fin n) :
    Near (d + d) (s' (order s t)) (s' (order s' t)) := by
  have h1 := rank_le s s' d (fun i => (h i).2) t
  have h2 := rank_le s' s d (fun i => (h i).1) t
  have h3 := h (order s t)
  constructor
  · calc s' (order s t) ≤ s (order s t) + d := h3.2
      _ ≤ s' (order s' t) + d + d := add_le_add h2 le_rfl
      _ = s' (order s' t) + (d + d) := add_assoc _ _ _
  · calc s' (order s' t) ≤ s (order s t) + d := h1
      _ ≤ s' (order s t) + d + d := add_le_add h3.1 le_rfl
      _ = s' (order s t) + (d + d) := add_assoc _ _ _

end Cert.Ranking

end
-- ==== Proof.NearScore.lean ====
/- A token's score by the exact activation, and how far the program's score can be from it: `score_near` bounds the
   difference by 2⁻²¹ times the sum of the second weights' absolute values. -/
module

public import proofs.«01_k».proof.Proof.Score
public import proofs.«01_k».proof.Proof.ExactGelu
public import proofs.«01_k».proof.Proof.Ranking
public import Mathlib.Analysis.Calculus.MeanValue
public import Mathlib.Analysis.Calculus.Deriv.Inv

@[expose] public section

noncomputable section

namespace Cert.NearScore

open Idealize.ShloMosaic Idealize.ShloMosaic.ValueIdx Cert.Activation Cert.ExactGelu Cert.Score Cert.Ranking

/-! ## Closeness -/

/-- Two extended reals are equal, or both real and at most `e` apart. -/
def Close (e : ℝ) (a b : EReal) : Prop := a = b ∨ ∃ p q : ℝ, a = p ∧ b = q ∧ |p - q| ≤ e

/-- Closeness is reflexive. -/
theorem Close.refl (e : ℝ) (a : EReal) : Close e a a := Or.inl rfl

/-- Closeness weakens with the bound. -/
theorem Close.mono {e e' : ℝ} {a b : EReal} (h : Close e a b) (he : e ≤ e') : Close e' a b := by
  rcases h with h | ⟨p, q, hp, hq, h⟩
  · exact Or.inl h
  · exact Or.inr ⟨p, q, hp, hq, h.trans he⟩

/-- Sums of close summands are close. -/
theorem Close.add {e e' : ℝ} {a b a' b' : EReal} (he : 0 ≤ e) (he' : 0 ≤ e') (h : Close e a b) (h' : Close e' a' b') :
    Close (e + e') (a + a') (b + b') := by
  have real : ∀ (d : ℝ) (p q : ℝ) (c : EReal), |p - q| ≤ d → Close d (c + p) (c + q) := by
    intro d p q c hd
    induction c using EReal.rec with
    | bot => left; rw [EReal.bot_add, EReal.bot_add]
    | top => left; rw [EReal.top_add_coe, EReal.top_add_coe]
    | coe r =>
      right
      exact ⟨r + p, r + q, by rw [EReal.coe_add], by rw [EReal.coe_add], by rwa [add_sub_add_left_eq_sub]⟩
  rcases h with rfl | ⟨p, q, rfl, rfl, h⟩
  · rcases h' with rfl | ⟨p', q', rfl, rfl, h'⟩
    · exact Close.refl _ _
    · exact (real e' p' q' a h').mono (by linarith)
  · rcases h' with rfl | ⟨p', q', rfl, rfl, h'⟩
    · rw [add_comm _ a', add_comm _ a']
      exact (real e p q a' h).mono (by linarith)
    · right
      refine ⟨p + p', q + q', by rw [EReal.coe_add], by rw [EReal.coe_add], ?_⟩
      rw [show p + p' - (q + q') = (p - q) + (p' - q') by ring]
      exact (abs_add_le _ _).trans (add_le_add h h')

/-- A sum of reals among the extended reals is their sum. -/
theorem coe_sum {ι : Type} (s : Finset ι) (f : ι → ℝ) : ((∑ i ∈ s, f i : ℝ) : EReal) = ∑ i ∈ s, (f i : EReal) := by
  classical
  induction s using Finset.induction_on with
  | empty => rfl
  | insert i s hi ih => rw [Finset.sum_insert hi, Finset.sum_insert hi, EReal.coe_add, ih]

/-- Finite sums of close summands are close. -/
theorem Close.sum {ι : Type} (s : Finset ι) (e : ι → ℝ) (a b : ι → EReal) (he : ∀ i, 0 ≤ e i)
    (h : ∀ i, Close (e i) (a i) (b i)) : Close (∑ i ∈ s, e i) (∑ i ∈ s, a i) (∑ i ∈ s, b i) := by
  classical
  induction s using Finset.induction_on with
  | empty => exact Close.refl _ _
  | insert i s hi ih =>
    rw [Finset.sum_insert hi, Finset.sum_insert hi, Finset.sum_insert hi]
    exact Close.add (he i) (Finset.sum_nonneg fun j _ => he j) (h i) ih

/-- Products with a real factor. -/
theorem Close.mul_coe {e : ℝ} {a b : EReal} (h : Close e a b) (w : ℝ) : Close (e * |w|) (a * w) (b * w) := by
  rcases h with rfl | ⟨p, q, rfl, rfl, h⟩
  · exact Close.refl _ _
  · right
    refine ⟨p * w, q * w, by rw [EReal.coe_mul], by rw [EReal.coe_mul], ?_⟩
    rw [← sub_mul, abs_mul]
    exact mul_le_mul_of_nonneg_right h (abs_nonneg w)

/-- Close extended reals are within the bound of one another. -/
theorem Close.near {e : ℝ} {a b : EReal} (he : 0 ≤ e) (h : Close e a b) : Near e a b := by
  rcases h with rfl | ⟨p, q, rfl, rfl, h⟩
  · have : a ≤ a + (e : EReal) := le_add_of_nonneg_right (by exact_mod_cast he)
    exact ⟨this, this⟩
  · obtain ⟨h1, h2⟩ := abs_le.mp h
    constructor
    · exact_mod_cast (by linarith : p ≤ q + e)
    · exact_mod_cast (by linarith : q ≤ p + e)

/-! ## The sigmoid -/

/-- The sigmoid at a real. -/
theorem sigmoid_coe (r : ℝ) : sigmoid (r : EReal) = (((1 + Real.exp (-r))⁻¹ : ℝ) : EReal) := by
  have h : (1 + Real.exp (-r) : ℝ) ≠ 0 := by positivity
  rw [sigmoid, word_one, ← EReal.coe_neg, Ideal.exp_coe, ← EReal.coe_add, Ideal.div_coe h, ← EReal.coe_mul, one_mul, one_div]

/-- The sigmoid's slope is at most a quarter. -/
theorem sigmoid_slope (p q : ℝ) : |(1 + Real.exp (-p))⁻¹ - (1 + Real.exp (-q))⁻¹| ≤ 1 / 4 * |p - q| := by
  have hd : ∀ x : ℝ, HasDerivAt (fun x : ℝ => (1 + Real.exp (-x))⁻¹) (Real.exp (-x) / (1 + Real.exp (-x)) ^ 2) x := by
    intro x
    have h0 : (1 + Real.exp (-x) : ℝ) ≠ 0 := by positivity
    have h1 : HasDerivAt (fun x : ℝ => 1 + Real.exp (-x)) (Real.exp (-x) * -1) x :=
      ((hasDerivAt_id' x).neg.exp).const_add 1
    have h2 := h1.fun_inv h0
    rwa [mul_neg_one, neg_neg] at h2
  have hb : ∀ x : ℝ, ‖Real.exp (-x) / (1 + Real.exp (-x)) ^ 2‖ ≤ 1 / 4 := by
    intro x
    have h0 : 0 < Real.exp (-x) := Real.exp_pos _
    rw [Real.norm_of_nonneg (by positivity), div_le_iff₀ (by positivity)]
    nlinarith [sq_nonneg (Real.exp (-x) - 1)]
  have := Convex.norm_image_sub_le_of_norm_hasDerivWithin_le (s := Set.univ) (fun x _ => (hd x).hasDerivWithinAt)
    (fun x _ => hb x) convex_univ (Set.mem_univ q) (Set.mem_univ p)
  simpa [Real.norm_eq_abs] using this

/-- Sigmoids of close arguments are four times as close. -/
theorem Close.sigmoid {e : ℝ} {a b : EReal} (h : Close e a b) : Close (e / 4) (sigmoid a) (sigmoid b) := by
  rcases h with rfl | ⟨p, q, rfl, rfl, h⟩
  · exact Close.refl _ _
  · right
    exact ⟨_, _, sigmoid_coe p, sigmoid_coe q, (sigmoid_slope p q).trans (by linarith)⟩

/-- The sigmoid is nowhere negative. -/
theorem sigmoid_nonneg (t : EReal) : 0 ≤ Activation.sigmoid t := by
  induction t using EReal.rec with
  | bot =>
    rw [Activation.sigmoid, word_one, EReal.neg_bot, Ideal.exp_top, EReal.coe_add_top, Ideal.div, if_neg (by simp), EReal.inv_top,
      mul_zero]
  | top =>
    rw [Activation.sigmoid, word_one, EReal.neg_top, Ideal.exp_bot, add_zero, Ideal.div_coe one_ne_zero, ← EReal.coe_mul]
    norm_num
  | coe r =>
    rw [sigmoid_coe]
    exact_mod_cast (by positivity : (0 : ℝ) ≤ (1 + Real.exp (-r))⁻¹)

/-! ## The score -/

variable (x : Fin 768 → EReal) (W1 : (⟨2, ![768, 96]⟩ : Shape).Idx → EReal) (b1 : (⟨1, ![96]⟩ : Shape).Idx → EReal)
  (W2 : (⟨2, ![96, 1]⟩ : Shape).Idx → EReal) (b2 : (⟨1, ![1]⟩ : Shape).Idx → EReal)

/-- The logit by the exact activation. -/
def exactLogit : EReal := ∑ j : Fin 96, exactGelu (preact x W1 b1 j) * W2 (ix2 j 0) + b2 (ix1 0)

/-- The score by the exact activation. -/
def exactScore : EReal := sigmoid (exactLogit x W1 b1 W2 b2)

/-- The sum of the second weights' absolute values. -/
def weight : EReal := ∑ j : Fin 96, max (W2 (ix2 j 0)) (-W2 (ix2 j 0))

/-- An absolute value is nowhere negative. -/
theorem abs_value_nonneg (a : EReal) : 0 ≤ max a (-a) := by
  rcases le_total 0 a with h | h
  · exact le_max_of_le_left h
  · exact le_max_of_le_right (EReal.neg_nonneg.mpr h)

/-- Where that sum is finite every second weight is real. -/
theorem weights_real (h : weight W2 ≠ ⊤) : ∃ w : Fin 96 → ℝ, ∀ j, W2 (ix2 j 0) = w j := by
  have hj : ∀ j, max (W2 (ix2 j 0)) (-W2 (ix2 j 0)) ≠ ⊤ := fun j e =>
    h (top_le_iff.mp (e ▸ Finset.single_le_sum (f := fun j => max (W2 (ix2 j 0)) (-W2 (ix2 j 0)))
      (fun j _ => abs_value_nonneg (W2 (ix2 j 0))) (Finset.mem_univ j)))
  refine ⟨fun j => (W2 (ix2 j 0)).toReal, fun j => (EReal.coe_toReal ?_ ?_).symm⟩
  · intro e
    exact hj j (by rw [e]; simp)
  · intro e
    exact hj j (by rw [e]; simp)

/-- The score is within 2⁻²¹ times that sum of the exact score, whatever the token. -/
theorem score_near (h : weight W2 ≠ ⊤) : ∃ a : ℝ, 0 ≤ a ∧ weight W2 = a
    ∧ ∀ x W1 b1 b2, Near ((1 / 2 ^ 21 * a : ℝ) : EReal) (score x W1 b1 W2 b2) (exactScore x W1 b1 W2 b2) := by
  obtain ⟨w, hw⟩ := weights_real W2 h
  have ha : 0 ≤ ∑ j, |w j| := Finset.sum_nonneg fun j _ => abs_nonneg _
  refine ⟨∑ j, |w j|, ha, ?_, fun x W1 b1 b2 => ?_⟩
  · unfold weight
    rw [coe_sum]
    refine Finset.sum_congr rfl fun j _ => ?_
    rw [hw]
    exact abs_coe (w j)
  · have ht : ∀ j, Close (1 / 2 ^ 19 * |w j|) (gelu (preact x W1 b1 j) * W2 (ix2 j 0)) (exactGelu (preact x W1 b1 j) * W2 (ix2 j 0)) :=
      fun j => by
        rw [hw]
        exact Close.mul_coe (gelu_near (preact x W1 b1 j)) (w j)
    have hs := Close.sum Finset.univ _ _ _ (fun j => by positivity) ht
    have hl : Close ((∑ j, 1 / 2 ^ 19 * |w j|) + 0) (logit x W1 b1 W2 b2) (exactLogit x W1 b1 W2 b2) :=
      Close.add (Finset.sum_nonneg fun j _ => by positivity) le_rfl hs (Close.refl 0 _)
    have hg := Close.sigmoid hl
    refine Close.near (by positivity) (hg.mono ?_)
    rw [← Finset.mul_sum]
    apply le_of_eq
    ring

end Cert.NearScore

end
-- ==== Proof.Post.lean ====
/- The predicate `best_by_exact_gelu`, read entry by entry: its scores are the exact scores, and its answer at rank `t` of
   batch member `b` compares the exact score of the chosen token with the `t`-th largest one. -/
module

public import proofs.«01_k».proof.Post_best_by_exact_gelu
public import proofs.«01_k».proof.Proof.Take
public import proofs.«01_k».proof.Proof.Reference
public import proofs.«01_k».proof.Proof.NearScore
public import Idealize.ShloMosaic.Lib.IdealHost
public import Idealize.ShloMosaic.Lib.Decide
public import Idealize.ShloMosaic.PureOps.Ideal.Laws

@[expose] public section

noncomputable section

namespace Cert.Post

open Cert.Post_best_by_exact_gelu
open Idealize.ShloMosaic Idealize.ShloMosaic.ValueIdx
open Cert.Activation Cert.Score Cert.NearScore Cert.ExactGelu Cert.Take Cert.Ranking

/-- The side conditions the predicate's operations take. -/
theorem facts : Facts where
  bcast_S96_S1x1x96_2 := by decide
  bcast_S1x1x96_S4x8192x96_0_1_2 := by decide
  bcast_S_S4x8192x96 := by decide
  bcast_S1_S1x1x1_2 := by decide
  bcast_S1x1x1_S4x8192x1_0_1_2 := by decide
  shapeCasts_S4x8192x1_S4x8192 := by decide
  bcast_S_S4x8192 := by decide
  sliceFits_S4x8192_S4x5734 := by decide
  bcast_S_S4x5734 := by decide
  shapeCasts_S4x5734_S4x5734x1 := by decide
  bcast_S_S4x5734x1 := by decide
  bcast_S1x1x1_S4x5734x1_0_1_2 := by decide
  reducesTo_S4x5734x1_S4x5734_d2 := by decide
  h_S_ := by decide
  reducesTo_S96x1_S_d0_1 := by decide
  bcast_S4x5734_S4x5734x1_0_1 := by decide
  bcast_S4x5734_S4x5734x768_0_1 := by decide
  bcast_S_S4x5734x768 := by decide
  reducesTo_S4x5734x768_S4x5734_d2 := by decide
  dot_S4x8192x768_S768x96_S4x8192x96_2_0_01_1_n_n_wf := by decide
  dot_S4x8192x96_S96x1_S4x8192x1_2_0_01_1_n_n_wf := by decide
  gather_S4x8192_S4x5734x1_S4x5734_n_1_0_0_1_2_11_wf := by decide
  gather_S4x8192x768_S4x5734x1_S4x5734x768_2_1_0_0_1_2_11768_wf := by decide

attribute [local instance] facts
open Facts

variable (x : FVec Ideal S4x8192x768 .f32) (W1 : FVec Ideal S768x96 .f32) (b1 : FVec Ideal S96 .f32)
  (W2 : FVec Ideal S96x1 .f32) (b2 : FVec Ideal S1 .f32)

/-! ## The predicate's scores -/

/-- The predicate's preactivations. -/
def preactivations : FVec Ideal S4x8192x96 .f32 :=
  addf (Host.dotGeneral dot_S4x8192x768_S768x96_S4x8192x96_2_0_01_1_n_n none x W1)
    (broadcastInDim S4x8192x96 ![0, 1, 2] bcast_S1x1x96_S4x8192x96_0_1_2 (broadcastInDim S1x1x96 ![2] bcast_S96_S1x1x96_2 b1))

/-- The predicate's activations of given preactivations. -/
def activations (p : FVec Ideal S4x8192x96 .f32) : FVec Ideal S4x8192x96 .f32 :=
  mulf (mulf (broadcastInDim S4x8192x96 ![] bcast_S_S4x8192x96 (constant S_ .f32 0x3F000000#32)) p)
    (Host.erfc (Host.divf (Host.negf p)
      (broadcastInDim S4x8192x96 ![] bcast_S_S4x8192x96 (Host.sqrt (constant S_ .f32 0x40000000#32)))))

/-- The predicate's logits of given activations. -/
def logits (a : FVec Ideal S4x8192x96 .f32) : FVec Ideal S4x8192 .f32 :=
  shapeCast S4x8192 (addf (Host.dotGeneral dot_S4x8192x96_S96x1_S4x8192x1_2_0_01_1_n_n none a W2)
    (broadcastInDim S4x8192x1 ![0, 1, 2] bcast_S1x1x1_S4x8192x1_0_1_2 (broadcastInDim S1x1x1 ![2] bcast_S1_S1x1x1_2 b2)))
    shapeCasts_S4x8192x1_S4x8192

/-- The predicate's scores of given logits. -/
def sigmoids (l : FVec Ideal S4x8192 .f32) : FVec Ideal S4x8192 .f32 :=
  Host.divf (broadcastInDim S4x8192 ![] bcast_S_S4x8192 (constant S_ .f32 0x3F800000#32))
    (addf (broadcastInDim S4x8192 ![] bcast_S_S4x8192 (constant S_ .f32 0x3F800000#32)) (Host.exp (Host.negf l)))

/-- The predicate's scores. -/
def scores : FVec Ideal S4x8192 .f32 := sigmoids (logits W2 b2 (activations (preactivations x W1 b1)))

/-- Their entries are the preactivations of the plain description. -/
theorem preactivations_apply (b : Fin 4) (n : Fin 8192) (j : Fin 96) :
    preactivations x W1 b1 (ix3 b n j) = preact (fun k => x (ix3 b n k)) W1 b1 j := by
  unfold preactivations preact
  refine congrArg₂ (· + ·) (Cert.ReferenceIdeal.Scores.firstProduct_apply x W1 b n j) ?_
  exact congrArg b1 (funext fun a => match a with | ⟨0, _⟩ => rfl)

/-- Their entries are the exact activations. -/
theorem activations_apply (p : FVec Ideal S4x8192x96 .f32) (i : S4x8192x96.Idx) : activations p i = exactGelu (p i) := rfl

/-- Their entries are sums over the hidden units, plus the bias. -/
theorem logits_apply (a : FVec Ideal S4x8192x96 .f32) (b : Fin 4) (n : Fin 8192) :
    logits W2 b2 a (ix2 b n) = ∑ j : Fin 96, a (ix3 b n j) * W2 (ix2 j 0) + b2 (ix1 0) := by
  unfold logits
  rw [shapeCast_apply _ _ (ix2 b n) (ix3 b n 0) (by
    rw [Shape.rowMajor_val_two, Shape.rowMajor_val_three]
    show (b.val * 8192 + n.val) * 1 + 0 = b.val * 8192 + n.val
    omega)]
  refine congrArg₂ (· + ·) (Cert.ReferenceIdeal.Scores.secondProduct_apply a W2 b n) ?_
  exact congrArg b2 (funext fun a => match a with | ⟨0, _⟩ => rfl)

/-- Entry `(b, n)` of the predicate's scores is the exact score of token `n` of batch member `b`. -/
theorem scores_apply (b : Fin 4) (n : Fin 8192) :
    scores x W1 b1 W2 b2 (ix2 b n) = exactScore (fun k => x (ix3 b n k)) W1 b1 W2 b2 := by
  have e : ∀ l : FVec Ideal S4x8192 .f32, sigmoids l (ix2 b n) = sigmoid (l (ix2 b n)) := fun _ => rfl
  unfold scores exactScore exactLogit
  rw [e, logits_apply]
  simp only [activations_apply, preactivations_apply]

/-! ## The selection -/

/-- The order of a row's scores, greatest first. -/
abbrev rowOrder (s : FVec Ideal S4x8192 .f32) (b : Fin 4) : Fin 8192 → Fin 8192 := order fun n => s (ix2 b n)

/-- The indices along the token axis. -/
theorem along_apply (b : Fin 4) (t k : Fin 8192) : Shape.Idx.along (s := S4x8192) (ix2 b t) 1 k = ix2 b k :=
  funext fun a => match a with
    | ⟨0, _⟩ => rfl
    | ⟨1, _⟩ => rfl

/-- A sort by the first operand, at an entry of either. -/
theorem sort_apply (s : FVec Ideal S4x8192 .f32) (y : IVec S4x8192 32) (b : Fin 4) (t : Fin 8192) :
    (Host.sort2 S4x8192 1 (fun l r => FloatOps.cmpfTotal .gt l.1 r.1) s y).1 (ix2 b t) = s (ix2 b (rowOrder s b t))
    ∧ (Host.sort2 S4x8192 1 (fun l r => FloatOps.cmpfTotal .gt l.1 r.1) s y).2 (ix2 b t) = y (ix2 b (rowOrder s b t)) := by
  have e : sortedFrom (fun k k' : Fin 8192 => (FloatOps.cmpfTotal (F := Ideal) (φ := .f32) .gt (s (Shape.Idx.along (s := S4x8192) (ix2 b t) 1 k))
      (s (Shape.Idx.along (s := S4x8192) (ix2 b t) 1 k'))) == 1#1) = rowOrder s b := by
    refine congrArg sortedFrom (funext fun k => funext fun k' => ?_)
    rw [along_apply, along_apply]
    show (BitVec.ofBool (decide (s (ix2 b k') < s (ix2 b k))) == 1#1) = decide (s (ix2 b k') < s (ix2 b k))
    cases decide (s (ix2 b k') < s (ix2 b k)) <;> rfl
  constructor
  · refine Eq.trans ?_ (congrArg s (along_apply b t (rowOrder s b t)))
    rw [← e]
    rfl
  · refine Eq.trans ?_ (congrArg y (along_apply b t (rowOrder s b t)))
    rw [← e]
    rfl

/-- Rank `t` of the selection's values and indices. -/
theorem topK_apply (s : FVec Ideal S4x8192 .f32) (b : Fin 4) (t : Fin 5734) :
    (Host.topK S4x5734 1 (FloatOps.cmpfTotal .gt) s sliceFits_S4x8192_S4x5734).1 (ix2 b t)
        = s (ix2 b (rowOrder s b ⟨t.val, by omega⟩))
    ∧ (Host.topK S4x5734 1 (FloatOps.cmpfTotal .gt) s sliceFits_S4x8192_S4x5734).2 (ix2 b t)
        = BitVec.ofNat 32 (rowOrder s b ⟨t.val, by omega⟩).val := by
  have h0 : ∀ {α : Type} (f : S4x8192.Idx → α),
      extractStridedSlice S4x5734 (fun _ => 0) f sliceFits_S4x8192_S4x5734 (ix2 b t) = f (ix2 b ⟨t.val, by omega⟩) := fun f =>
    congrArg f (funext fun a => Fin.ext (match a with
      | ⟨0, _⟩ => by show 0 + b.val = b.val; omega
      | ⟨1, _⟩ => by show 0 + t.val = t.val; omega))
  exact ⟨(h0 _).trans (sort_apply s (iotaInDim S4x8192 32 1) b _).1,
    (h0 _).trans ((sort_apply s (iotaInDim S4x8192 32 1) b _).2.trans rfl)⟩

/-! ## The takes -/

/-- The predicate's gather of scores, at an entry. -/
theorem gather_apply (s : FVec Ideal S4x8192 .f32) (i : IVec S4x5734x1 32) (b : Fin 4) (t : Fin 5734) :
    Host.gather gather_S4x8192_S4x5734x1_S4x5734_n_1_0_0_1_2_11 s i (ix2 b t)
      = s (ix2 b ⟨min (i (ix3 b t 0)).toInt.toNat 8191, by omega⟩) := by
  unfold Host.gather
  refine congrArg s (funext fun a => Fin.ext ?_)
  match a with
  | ⟨0, _⟩ => show 0 + b.val + 0 = b.val; omega
  | ⟨1, _⟩ =>
    show min (i _).toInt.toNat 8191 + 0 + 0 = min (i (ix3 b t 0)).toInt.toNat 8191
    refine congrArg (fun q => min (i q).toInt.toNat 8191) (funext fun a => Fin.ext ?_)
    match a with
    | ⟨0, _⟩ => rfl
    | ⟨1, _⟩ => rfl
    | ⟨2, _⟩ => rfl

/-- The position of an index below 8192 is itself and in range. -/
theorem position_index (n : Fin 8192) :
    position (BitVec.ofNat 32 n.val) = BitVec.ofNat 32 n.val ∧ (BitVec.ofNat 32 n.val).toInt = n.val
      ∧ IntOp.cmpi .sge (BitVec.ofNat 32 n.val) 0#32 = 1#1 ∧ IntOp.cmpi .sle (BitVec.ofNat 32 n.val) 8191#32 = 1#1 := by
  have hn := n.isLt
  have ht : (BitVec.ofNat 32 n.val).toInt = n.val := by
    rw [BitVec.toInt_eq_toNat_of_lt]
    · rw [BitVec.toNat_ofNat, Nat.mod_eq_of_lt (by omega)]
    · rw [BitVec.toNat_ofNat, Nat.mod_eq_of_lt (by omega)]
      omega
  have h0 : (0#32).toInt = 0 := by decide
  have h1 : (8191#32).toInt = 8191 := by decide
  refine ⟨?_, ht, ?_, ?_⟩
  · have hc : IntOp.cmpi .slt (BitVec.ofNat 32 n.val) 0#32 = 0#1 := by
      show BitVec.ofBool ((BitVec.ofNat 32 n.val).slt 0#32) = 0#1
      rw [BitVec.slt, ht, h0, decide_eq_false (by omega)]
      rfl
    unfold position
    rw [hc]
    rfl
  · show BitVec.ofBool ((0#32).sle (BitVec.ofNat 32 n.val)) = 1#1
    rw [BitVec.sle, ht, h0, decide_eq_true (by omega)]
    rfl
  · show BitVec.ofBool ((BitVec.ofNat 32 n.val).sle 8191#32) = 1#1
    rw [BitVec.sle, ht, h1, decide_eq_true (by omega)]
    rfl

/-- A selection where its condition is 1. -/
theorem select_of_one {s : Shape} (r : IVec s 1) (u v : FVec Ideal s .f32) (j : s.Idx) (h : r j = 1#1) : select r u v j = u j := by
  show Scalar.select (r j) (u j) (v j) = u j
  rw [h]
  rfl

/-- The take of scores at an index below 8192 is the score there. -/
theorem scoreTake_apply (s : FVec Ideal S4x8192 .f32) (i : IVec S4x5734 32) (b : Fin 4) (t : Fin 5734) (n : Fin 8192)
    (h : i (ix2 b t) = BitVec.ofNat 32 n.val) : fn_take_along_axis s i (ix2 b t) = s (ix2 b n) := by
  obtain ⟨hp, hi, hge, hle⟩ := position_index n
  have e : ∀ q : IVec S4x5734x1 32, q (ix3 b t 0) = BitVec.ofNat 32 n.val →
      (select (Host.reduce IntOp.andi
          (andi (cmpi .sge q (broadcastInDim S4x5734x1 ![] bcast_S_S4x5734x1 (constantI S_ 32 0#32)))
            (cmpi .sle q (broadcastInDim S4x5734x1 ![0, 1, 2] bcast_S1x1x1_S4x5734x1_0_1_2
              (broadcastInDim S1x1x1 ![2] bcast_S1_S1x1x1_2 (constantI S1 32 8191#32)))))
          (constantI S_ 1 1#1) reducesTo_S4x5734x1_S4x5734_d2 h_S_)
        (Host.gather gather_S4x8192_S4x5734x1_S4x5734_n_1_0_0_1_2_11 s q)
        (broadcastInDim S4x5734 ![] bcast_S_S4x5734 (constant (F := Ideal) S_ .f32 0x7FC00000#32)) : FVec Ideal S4x5734 .f32) (ix2 b t)
        = s (ix2 b n) := by
    intro q hq
    have hr : Host.reduce IntOp.andi
          (andi (cmpi .sge q (broadcastInDim S4x5734x1 ![] bcast_S_S4x5734x1 (constantI S_ 32 0#32)))
            (cmpi .sle q (broadcastInDim S4x5734x1 ![0, 1, 2] bcast_S1x1x1_S4x5734x1_0_1_2
              (broadcastInDim S1x1x1 ![2] bcast_S1_S1x1x1_2 (constantI S1 32 8191#32)))))
          (constantI S_ 1 1#1) reducesTo_S4x5734x1_S4x5734_d2 h_S_ (ix2 b t) = 1#1 := by
      rw [reduce_unit]
      show IntOp.andi (IntOp.andi (IntOp.cmpi .sge (q (ix3 b t 0)) 0#32) (IntOp.cmpi .sle (q (ix3 b t 0)) 8191#32)) 1#1 = 1#1
      rw [hq, hge, hle]
      rfl
    refine (select_of_one _ _ _ _ hr).trans ?_
    refine (gather_apply s q b t).trans (congrArg (fun k => s (ix2 b k)) (Fin.ext ?_))
    show min (q (ix3 b t 0)).toInt.toNat 8191 = n.val
    rw [hq, hi]
    omega
  refine e _ ?_
  rw [shapeCast_apply _ _ (ix3 b t 0) (ix2 b t) (by
    rw [Shape.rowMajor_val_two, Shape.rowMajor_val_three]
    show b.val * 5734 + t.val = (b.val * 5734 + t.val) * 1 + 0
    omega)]
  refine Eq.trans ?_ ((congrArg position h).trans hp)
  rfl

/-- The predicate's take of rows, at an entry. -/
theorem rowTake_apply (i : IVec S4x5734 32) (b : Fin 4) (t : Fin 5734) (k : Fin 768) :
    fn_take_along_axis_0 x (broadcastInDim S4x5734x1 ![0, 1] bcast_S4x5734_S4x5734x1_0_1 i) (ix3 b t k)
      = entry x b k (i (ix2 b t)) :=
  take_apply x _ b t k _ (wrapped_apply i b t)

/-! ## The answer -/

/-- The tolerance: 2⁻²⁰ times the sum of the second weights' absolute values. -/
def tolerance : FVec Ideal S_ .f32 :=
  mulf (constant S_ .f32 0x35800000#32) (Host.reduceAdd (Host.absf W2) (constant S_ .f32 0x00000000#32) reducesTo_S96x1_S_d0_1 h_S_)

/-- That is its value. -/
theorem tolerance_apply (i : S_.Idx) : tolerance W2 i = ((1 / 2 ^ 20 : ℝ) : EReal) * weight W2 := by
  have hw : Host.reduceAdd (Host.absf W2) (constant S_ .f32 0x00000000#32) reducesTo_S96x1_S_d0_1 h_S_ i = weight W2 := by
    rw [hostReduceAdd_apply, Ideal.hostReduceAdd_total _ (fun b => b.elim0), sum_idx2]
    show word 0x00000000#32 + ∑ j : Fin 96, ∑ k : Fin 1, max (W2 (ix2 j k)) (-W2 (ix2 j k)) = weight W2
    rw [word_zero, EReal.coe_zero, zero_add]
    exact Finset.sum_congr rfl fun j _ => Fin.sum_univ_one _
  show word 0x35800000#32 * _ = _
  rw [hw, word_eq _ (by decide) (by decide), Coefficients.value]
  norm_num

/-- The conjunction of ones is one. -/
theorem fold_ones {ι : Type} (s : Finset ι) : s.fold IntOp.andi 1#1 (fun _ => 1#1) = 1#1 := by
  classical
  induction s using Finset.induction_on with
  | empty => rfl
  | insert i s hi ih => rw [Finset.fold_insert hi, ih]; rfl

/-- A comparison that holds is one. -/
theorem oge_of_le {s : Shape} (u v : FVec Ideal s .f32) (j : s.Idx) (h : v j ≤ u j) : cmpf .oge u v j = 1#1 := by
  show BitVec.ofBool (decide (v j ≤ u j)) = 1#1
  rw [decide_eq_true h]
  rfl

/-- The rows kept are the rows at the indices. -/
def rowsKept (y : FVec Ideal S4x5734x768 .f32) (i : IVec S4x5734 32) : IVec S4x5734 1 :=
  Host.reduce IntOp.andi
    (cmpf .oeq y (fn_take_along_axis_0 x (broadcastInDim S4x5734x1 ![0, 1] bcast_S4x5734_S4x5734x1_0_1 i)))
    (constantI S_ 1 1#1) reducesTo_S4x5734x768_S4x5734_d2 h_S_

/-- Where the rows are those of the take at the indices, the answer is one. -/
theorem rowsKept_apply (y : FVec Ideal S4x5734x768 .f32) (i : IVec S4x5734 32)
    (h : ∀ b t k, y (ix3 b t k) = entry x b k (i (ix2 b t))) (b : Fin 4) (t : Fin 5734) : rowsKept x y i (ix2 b t) = 1#1 := by
  have hb : ∀ b t k, cmpf .oeq y (fn_take_along_axis_0 x (broadcastInDim S4x5734x1 ![0, 1] bcast_S4x5734_S4x5734x1_0_1 i)) (ix3 b t k)
      = 1#1 := by
    intro b t k
    show BitVec.ofBool (decide (y (ix3 b t k) = _)) = 1#1
    rw [h, rowTake_apply, decide_eq_true rfl]
    rfl
  have hc : cmpf .oeq y (fn_take_along_axis_0 x (broadcastInDim S4x5734x1 ![0, 1] bcast_S4x5734_S4x5734x1_0_1 i))
      = fun _ => 1#1 := funext fun j =>
    (congrArg _ (funext fun a => match a with | ⟨0, _⟩ => rfl | ⟨1, _⟩ => rfl | ⟨2, _⟩ => rfl)).trans (hb (j 0) (j 1) (j 2))
  unfold rowsKept
  rw [hc, Host.reduce_eq_fold]
  exact fold_ones _

/-- The predicate is the two comparisons of scores and that of rows. -/
theorem fn_eq (y : FVec Ideal S4x5734x768 .f32) (i : IVec S4x5734 32) :
    fn x W1 b1 W2 b2 y i
      = andi (andi
          (cmpf .oge (addf (fn_take_along_axis (scores x W1 b1 W2 b2) i) (broadcastInDim S4x5734 ![] bcast_S_S4x5734 (tolerance W2)))
            (Host.topK S4x5734 1 (FloatOps.cmpfTotal .gt) (scores x W1 b1 W2 b2) sliceFits_S4x8192_S4x5734).1)
          (cmpf .oge (addf (Host.topK S4x5734 1 (FloatOps.cmpfTotal .gt) (scores x W1 b1 W2 b2) sliceFits_S4x8192_S4x5734).1
              (broadcastInDim S4x5734 ![] bcast_S_S4x5734 (tolerance W2)))
            (fn_take_along_axis (scores x W1 b1 W2 b2) i)))
        (rowsKept x y i) := by
  unfold fn fn_part1 scores sigmoids logits activations preactivations tolerance rowsKept
  with_reducible rfl

/-- At each rank the exact score of the token the program's scores put there is within the tolerance of the exact score of
    that rank. -/
theorem ranks_near (s : FVec Ideal S4x8192 .f32)
    (hs : ∀ b n, s (ix2 b n) = score (fun k => x (ix3 b n k)) W1 b1 W2 b2) (b : Fin 4) (t : Fin 8192) :
    Near (((1 / 2 ^ 20 : ℝ) : EReal) * weight W2) (scores x W1 b1 W2 b2 (ix2 b (rowOrder s b t)))
      (scores x W1 b1 W2 b2 (ix2 b (rowOrder (scores x W1 b1 W2 b2) b t))) := by
  by_cases h : weight W2 = ⊤
  · have hn : ∀ n, 0 ≤ scores x W1 b1 W2 b2 (ix2 b n) := fun n => by
      rw [scores_apply]
      exact sigmoid_nonneg _
    rw [h, EReal.coe_mul_top_of_pos (by norm_num)]
    constructor
    · rw [EReal.add_top_of_ne_bot (ne_of_gt (lt_of_lt_of_le EReal.bot_lt_zero (hn _)))]
      exact le_top
    · rw [EReal.add_top_of_ne_bot (ne_of_gt (lt_of_lt_of_le EReal.bot_lt_zero (hn _)))]
      exact le_top
  · obtain ⟨a, ha, hw, hnear⟩ := score_near W2 h
    have hd : ((1 / 2 ^ 20 : ℝ) : EReal) * weight W2 = ((1 / 2 ^ 21 * a : ℝ) : EReal) + ((1 / 2 ^ 21 * a : ℝ) : EReal) := by
      rw [hw, ← EReal.coe_mul, ← EReal.coe_add]
      congr 1
      ring
    rw [hd]
    refine rank_near (fun n => s (ix2 b n)) (fun n => scores x W1 b1 W2 b2 (ix2 b n)) _ (fun n => ?_) t
    rw [hs, scores_apply]
    exact hnear _ _ _ _

/-- Scores near the exact ones choose tokens whose exact scores are the largest, rank by rank, to within the tolerance: the
    predicate holds of the selection by any scores of the program's. -/
theorem holds (s : FVec Ideal S4x8192 .f32) (y : FVec Ideal S4x5734x768 .f32)
    (hs : ∀ b n, s (ix2 b n) = score (fun k => x (ix3 b n k)) W1 b1 W2 b2)
    (hy : ∀ b t k, y (ix3 b t k) = entry x b k
      ((Host.topK S4x5734 1 (FloatOps.cmpfTotal .gt) s sliceFits_S4x8192_S4x5734).2 (ix2 b t))) :
    fn x W1 b1 W2 b2 y (Host.topK S4x5734 1 (FloatOps.cmpfTotal .gt) s sliceFits_S4x8192_S4x5734).2 = fun _ => 1#1 := by
  have entry_one : ∀ b t, fn x W1 b1 W2 b2 y (Host.topK S4x5734 1 (FloatOps.cmpfTotal .gt) s sliceFits_S4x8192_S4x5734).2 (ix2 b t)
      = 1#1 := by
    intro b t
    have ht : t.val < 8192 := by omega
    have htake := scoreTake_apply (scores x W1 b1 W2 b2) _ b t _ (topK_apply s b t).2
    have htop := (topK_apply (scores x W1 b1 W2 b2) b t).1
    have hrow := rowsKept_apply x y _ hy b t
    have hnear := ranks_near x W1 b1 W2 b2 s hs b ⟨t.val, ht⟩
    rw [← htake, ← htop, ← tolerance_apply W2 ix0] at hnear
    have htol : broadcastInDim S4x5734 ![] bcast_S_S4x5734 (tolerance W2) (ix2 b t) = tolerance W2 ix0 :=
      congrArg (tolerance W2) (funext fun a => a.elim0)
    rw [fn_eq]
    refine congrArg₂ IntOp.andi (congrArg₂ IntOp.andi (oge_of_le _ _ _ ?_) (oge_of_le _ _ _ ?_)) hrow
    · rw [addf_apply, htol]
      exact hnear.2
    · rw [addf_apply, htol]
      exact hnear.1
  exact funext fun j =>
    (congrArg _ (funext fun a => match a with | ⟨0, _⟩ => rfl | ⟨1, _⟩ => rfl)).trans (entry_one (j 0) (j 1))

end Cert.Post

end
-- ==== Proof.lean ====
/- The certificate: the kernel, its form over the extended reals and the reference run to the end and leave their
   arguments alone; the named constants are what the program's words round; the kernel's two results are the reference's;
   and the tokens it chooses are the best by the exact GELU, rank by rank, to within the predicate's tolerance. -/
module

public import proofs.«01_k».proof.Defs
public import proofs.«01_k».proof.Proof.Gen.Kernel.Frame
public import proofs.«01_k».proof.Proof.Equation
public import proofs.«01_k».proof.Proof.Post
public import Idealize.ShloMosaic.Adequacy
public import Idealize.ShloMosaic.Init
public import Idealize.ShloMosaic.Lib.Quiescent
public import Idealize.ShloMosaic.PureOps.IdealRules

@[expose] public section

noncomputable section

namespace Cert.Proof

open Idealize.ShloMosaic Idealize.ShloMosaic.ValueIdx Idealize.SL.Sem

section
attribute [local instance] Cert.Kernel.Gen.facts Cert.KernelIdeal.Gen.facts Cert.ReferenceIdeal.Gen.facts

/-- The kernel as written runs to the end with every counter at zero and its arguments unchanged. -/
theorem kernel_frame : Cert.quiescent_Kernel := fun m ρ _ => Cert.Kernel.Gen.frame m ρ

/-- So does the kernel over the extended reals. -/
theorem kernelIdeal_frame : Cert.quiescent_KernelIdeal := fun m ρ _ => Cert.KernelIdeal.Gen.frame m ρ

/-- So does the reference. -/
theorem reference_frame : Cert.quiescent_ReferenceIdeal := fun m ρ _ =>
  (θ_run Cert.ReferenceIdeal.defs _ _).mono
    (fun r h => ⟨fun c => (h c).2.2, Idealize.ShloMosaic.sem_eq_zero_of_no_sems (by decide) r.2⟩)
    (Cert.ReferenceIdeal.Value.run (F := Ideal) m ρ)

/-- The named constants are within the rounding of the words they stand for. -/
theorem preserves : Cert.preserves_Kernel_KernelIdeal :=
  ⟨IdealRules.named_const.statement Cert.KernelIdeal.κ "neg_sqrt_half" .f32 0xBF3504F3#32 _ rfl,
    IdealRules.named_const.statement Cert.KernelIdeal.κ "log2e" .f32 0x3FB8AA3B#32 _ rfl,
    IdealRules.named_const.statement Cert.KernelIdeal.κ "neg_log2e" .f32 0xBFB8AA3B#32 _ rfl⟩

/-- Both results of the kernel are the reference's, at the same arguments. -/
theorem algebraic : Cert.algebraic_KernelIdeal_ReferenceIdeal := fun m g m' g' _ h => by
  have hA : ∀ c, Equation.Agree m (StableHlo.launchContents m' c) c := h
  refine ⟨fun c => Cert.KernelIdeal.KernelRun.kept (m ((c.tc : Thread Cert.KernelIdeal.nD Cert.KernelIdeal.τ).loc Cert.KernelIdeal.main_arg0))
      (Cert.KernelIdeal.KernelRun.top (Cert.KernelIdeal.KernelRun.scoreRows m c)),
    fun c => Cert.KernelIdeal.KernelRun.top (Cert.KernelIdeal.KernelRun.scoreRows m c), ?_, ?_⟩
  · exact (θ_run Cert.KernelIdeal.defs _ _).mono (fun r hr c => ⟨(hr c).1.1, (hr c).1.2, (hr c).2⟩)
      (Cert.KernelIdeal.KernelRun.run m g)
  · refine (θ_run Cert.ReferenceIdeal.defs _ _).mono (fun r hr c => ⟨(hr c).1.trans ?_, (hr c).2.1.trans (Equation.indices_eq (hA c)).symm, (hr c).2.2⟩)
      (Cert.ReferenceIdeal.Value.run (F := Ideal) m' g')
    refine funext fun i => ?_
    have hi : i = ix3 (i 0) (i 1) (i 2) := funext fun a => match a with | ⟨0, _⟩ => rfl | ⟨1, _⟩ => rfl | ⟨2, _⟩ => rfl
    rw [hi]
    exact (Take.reference_apply (StableHlo.launchContents m' c) (i 0) (i 1) (i 2)).trans
      (Equation.kept_eq (hA c) (i 0) (i 1) (i 2)).symm

/-- The tokens the kernel chooses and keeps are the best by the exact GELU, to within the predicate's tolerance. -/
theorem best : Cert.holds_KernelIdeal_best_by_exact_gelu (hPost_best_by_exact_gelu := Cert.Post.facts) := fun m g _ =>
  (θ_run Cert.KernelIdeal.defs _ _).mono (fun r hr c => by
    obtain ⟨⟨hk, hi⟩, h0, h1, h2, h3, h4⟩ := hr c
    refine ⟨h0, h1, h2, h3, h4, ?_⟩
    rw [hk, hi]
    exact Cert.Post.holds _ _ _ _ _ (Cert.KernelIdeal.KernelRun.scoreRows m c) _ (Equation.scoreRows_apply m c)
      (fun b t k => Take.kept_apply _ _ b t k)) (Cert.KernelIdeal.KernelRun.run m g)

end

/-- The certificate. -/
theorem claim : Cert.Claim :=
  ⟨Cert.Kernel.Gen.facts, Cert.KernelIdeal.Gen.facts, Cert.ReferenceIdeal.Gen.facts, Cert.Post.facts,
    kernel_frame, kernelIdeal_frame, reference_frame, preserves, algebraic, best⟩

end Cert.Proof

end
